-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 2]⟩ ⟨2, ![8192, 2]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![8192, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x64 : Shape := ⟨2, ![256, 64]⟩
abbrev S512x2 : Shape := ⟨2, ![512, 2]⟩
abbrev S4x256x512 : Shape := ⟨3, ![4, 256, 512]⟩
abbrev S_ : Shape := ⟨0, ![]⟩

class Facts : Prop where
  bcast_S_S512x2 : S_.BroadcastsInDim S512x2 (![] : Fin 0 → Fin S512x2.rank)
  reducesTo_S512x2_S_d0_1 : S512x2.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S512x256 .f32) (main_arg1 : FVec F S256x64 .f32) (main_arg2 : IVec S512x2 32) (main_arg3 : FVec F S4x256x512 .f32) : IVec S_ 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 64#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_c_1 : IVec S_ 1 := constantI S_ 1 1#1
  let main_v5 : IVec S_ 1 := (fun x v => Host.reduce IntOp.andi x v reducesTo_S512x2_S_d0_1 h_S_) main_v4 main_c_1
  let main_v6 : FVec F S512x256 .f32 := Host.absf main_arg0
  let main_cst : FVec F S_ .f32 := constant S_ .f32 0x7F800000#32
  let main_v7 : FVec F S512x256 .f32 := broadcastInDim S512x256 ![] bcast_S_S512x256 main_cst
  let main_v8 : IVec S512x256 1 := cmpf .olt main_v6 main_v7
  let main_c_2 : IVec S_ 1 := constantI S_ 1 1#1
  let main_v9 : IVec S_ 1 := (fun x v => Host.reduce IntOp.andi x v reducesTo_S512x256_S_d0_1 h_S_) main_v8 main_c_2
  let main_v10 : FVec F S256x64 .f32 := Host.absf main_arg1
  let main_cst_3 : FVec F S_ .f32 := constant S_ .f32 0x7F800000#32
  let main_v11 : FVec F S256x64 .f32 := broadcastInDim S256x64 ![] bcast_S_S256x64 main_cst_3
  let main_v12 : IVec S256x64 1 := cmpf .olt main_v10 main_v11
  let main_c_4 : IVec S_ 1 := constantI S_ 1 1#1
  let main_v13 : IVec S_ 1 := (fun x v => Host.reduce IntOp.andi x v reducesTo_S256x64_S_d0_1 h_S_) main_v12 main_c_4
  let main_v14 : IVec S_ 1 := andi main_v9 main_v13
  let main_v15 : IVec S_ 1 := andi main_v5 main_v14
  main_v15
-- ==== Pre_routed_ReferenceIdeal.lean ====
abbrev S8192x256 : Shape := ⟨2, ![8192, 256]⟩
abbrev S256x64 : Shape := ⟨2, ![256, 64]⟩
abbrev S8192x2 : Shape := ⟨2, ![8192, 2]⟩
abbrev S64x256x512 : Shape := ⟨3, ![64, 256, 512]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S8192x256 .f32) (main_arg1 : FVec F S256x64 .f32) (main_arg2 : IVec S8192x2 32) (main_arg3 : FVec F S64x256x512 .f32) : IVec S_ 1 :=
  let main_c : IVec S_ 32 := constantI S_ 32 0#32
  let main_v0 : IVec S8192x2 32 := broadcastInDim S8192x2 ![] bcast_S_S8192x2 main_c
  let main_v1 : IVec S8192x2 1 := cmpi .sge main_arg2 main_v0
  let main_c_0 : IVec S_ 32 := constantI S_ 32 64#32
  let main_v2 : IVec S8192x2 32 := broadcastInDim S8192x2 ![] bcast_S_S8192x2 main_c_0
  let main_v3 : IVec S8192x2 1 := cmpi .slt main_arg2 main_v2
  let main_v4 : IVec S8192x2 1 := andi main_v1 main_v3
  let main_c_1 : IVec S_ 1 := constantI S_ 1 1#1
  let main_v5 : IVec S_ 1 := (fun x v => Host.reduce IntOp.andi x v reducesTo_S8192x2_S_d0_1 h_S_) main_v4 main_c_1
  let main_v6 : FVec F S8192x256 .f32 := Host.absf main_arg0
  let main_cst : FVec F S_ .f32 := constant S_ .f32 0x7F800000#32
  let main_v7 : FVec F S8192x256 .f32 := broadcastInDim S8192x256 ![] bcast_S_S8192x256 main_cst
  let main_v8 : IVec S8192x256 1 := cmpf .olt main_v6 main_v7
  let main_c_2 : IVec S_ 1 := constantI S_ 1 1#1
  let main_v9 : IVec S_ 1 := (fun x v => Host.reduce IntOp.andi x v reducesTo_S8192x256_S_d0_1 h_S_) main_v8 main_c_2
  let main_v10 : FVec F S256x64 .f32 := Host.absf main_arg1
  let main_cst_3 : FVec F S_ .f32 := constant S_ .f32 0x7F800000#32
  let main_v11 : FVec F S256x64 .f32 := broadcastInDim S256x64 ![] bcast_S_S256x64 main_cst_3
  let main_v12 : IVec S256x64 1 := cmpf .olt main_v10 main_v11
  let main_c_4 : IVec S_ 1 := constantI S_ 1 1#1
  let main_v13 : IVec S_ 1 := (fun x v => Host.reduce IntOp.andi x v reducesTo_S256x64_S_d0_1 h_S_) main_v12 main_c_4
  let main_v14 : IVec S_ 1 := andi main_v9 main_v13
  let main_v15 : IVec S_ 1 := andi main_v5 main_v14
  main_v15
-- ==== Kernel.lean ====
abbrev S512x256 : Shape := ⟨2, ![512, 256]⟩
abbrev S256x64 : Shape := ⟨2, ![256, 64]⟩
abbrev S512x2 : Shape := ⟨2, ![512, 2]⟩
abbrev S4x256x512 : Shape := ⟨3, ![4, 256, 512]⟩
abbrev S512x512 : Shape := ⟨2, ![512, 512]⟩
abbrev S15x4x256x512 : Shape := ⟨4, ![15, 4, 256, 512]⟩
abbrev S15 : Shape := ⟨1, ![15]⟩
abbrev S_ : Shape := ⟨0, ![]⟩
abbrev S1 : Shape := ⟨1, ![1]⟩
abbrev S1x4x256x512 : Shape := ⟨4, ![1, 4, 256, 512]⟩
abbrev S512x64 : Shape := ⟨2, ![512, 64]⟩
abbrev S512 : Shape := ⟨1, ![512]⟩
abbrev S512x1 : Shape := ⟨2, ![512, 1]⟩
abbrev S1x64 : Shape := ⟨2, ![1, 64]⟩
abbrev S1x256x512 : Shape := ⟨3, ![1, 256, 512]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x2, .i32⟩
  | .hbm, ⟨3, _⟩ => ⟨S4x256x512, .f32⟩
  | .hbm, ⟨4, _⟩ => ⟨S512x512, .f32⟩
  | .local _ .vmem, ⟨0, _⟩ => ⟨S512x256, .f32⟩
  | .local _ .vmem, ⟨1, _⟩ => ⟨S256x64, .f32⟩
  | .local _ .vmem, ⟨2, _⟩ => ⟨S512x2, .i32⟩
  | .local _ .vmem, ⟨3, _⟩ => ⟨S4x256x512, .f32⟩
  | .local _ .vmem, ⟨4, _⟩ => ⟨S512x512, .f32⟩
  | .local _ .vmem, ⟨5, _⟩ => ⟨S15x4x256x512, .bf16⟩
  | .local _ .vmem, ⟨6, _⟩ => ⟨S4x256x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => false
  | ⟨1, _⟩ => true
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 2 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v10 : BitVec 32 := Scalar.addi v2 c1_i32_5
  let c16_i32_6 : BitVec 32 := 16#32
  let v11 : BitVec 32 := Scalar.remsi v10 c16_i32_6
  let c1_i32_8 : BitVec 32 := 1#32
  let v12 : BitVec 32 := Scalar.muli v11 c1_i32_8
  let v13 : BitVec 32 := Scalar.addi c0_i32 v12
  v13.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v14 : BitVec 32 := Scalar.addi v2 c2_i32
  let c16_i32_9 : BitVec 32 := 16#32
  let v15 : BitVec 32 := Scalar.remsi v14 c16_i32_9
  let c1_i32_11 : BitVec 32 := 1#32
  let v16 : BitVec 32 := Scalar.muli v15 c1_i32_11
  let v17 : BitVec 32 := Scalar.addi c0_i32_12 v16
  v17.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v18 : BitVec 32 := Scalar.addi v2 c3_i32
  let c16_i32_13 : BitVec 32 := 16#32
  let v19 : BitVec 32 := Scalar.remsi v18 c16_i32_13
  let c1_i32_15 : BitVec 32 := 1#32
  let v20 : BitVec 32 := Scalar.muli v19 c1_i32_15
  let v21 : BitVec 32 := Scalar.addi c0_i32_16 v20
  v21.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v22 : BitVec 32 := Scalar.addi v2 c4_i32
  let c16_i32_17 : BitVec 32 := 16#32
  let v23 : BitVec 32 := Scalar.remsi v22 c16_i32_17
  let c1_i32_19 : BitVec 32 := 1#32
  let v24 : BitVec 32 := Scalar.muli v23 c1_i32_19
  let v25 : BitVec 32 := Scalar.addi c0_i32_20 v24
  v25.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v26 : BitVec 32 := Scalar.addi v2 c5_i32
  let c16_i32_21 : BitVec 32 := 16#32
  let v27 : BitVec 32 := Scalar.remsi v26 c16_i32_21
  let c1_i32_23 : BitVec 32 := 1#32
  let v28 : BitVec 32 := Scalar.muli v27 c1_i32_23
  let v29 : BitVec 32 := Scalar.addi c0_i32_24 v28
  v29.toNat
def k0_dev6 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v30 : BitVec 32 := Scalar.addi v2 c6_i32
  let c16_i32_25 : BitVec 32 := 16#32
  let v31 : BitVec 32 := Scalar.remsi v30 c16_i32_25
  let c1_i32_27 : BitVec 32 := 1#32
  let v32 : BitVec 32 := Scalar.muli v31 c1_i32_27
  let v33 : BitVec 32 := Scalar.addi c0_i32_28 v32
  v33.toNat
def k0_dev7 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v34 : BitVec 32 := Scalar.addi v2 c7_i32
  let c16_i32_29 : BitVec 32 := 16#32
  let v35 : BitVec 32 := Scalar.remsi v34 c16_i32_29
  let c1_i32_31 : BitVec 32 := 1#32
  let v36 : BitVec 32 := Scalar.muli v35 c1_i32_31
  let v37 : BitVec 32 := Scalar.addi c0_i32_32 v36
  v37.toNat
def k0_dev8 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v38 : BitVec 32 := Scalar.addi v2 c8_i32
  let c16_i32_33 : BitVec 32 := 16#32
  let v39 : BitVec 32 := Scalar.remsi v38 c16_i32_33
  let c1_i32_35 : BitVec 32 := 1#32
  let v40 : BitVec 32 := Scalar.muli v39 c1_i32_35
  let v41 : BitVec 32 := Scalar.addi c0_i32_36 v40
  v41.toNat
def k0_dev9 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v42 : BitVec 32 := Scalar.addi v2 c9_i32
  let c16_i32_37 : BitVec 32 := 16#32
  let v43 : BitVec 32 := Scalar.remsi v42 c16_i32_37
  let c1_i32_39 : BitVec 32 := 1#32
  let v44 : BitVec 32 := Scalar.muli v43 c1_i32_39
  let v45 : BitVec 32 := Scalar.addi c0_i32_40 v44
  v45.toNat
def k0_dev10 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v46 : BitVec 32 := Scalar.addi v2 c10_i32
  let c16_i32_41 : BitVec 32 := 16#32
  let v47 : BitVec 32 := Scalar.remsi v46 c16_i32_41
  let c1_i32_43 : BitVec 32 := 1#32
  let v48 : BitVec 32 := Scalar.muli v47 c1_i32_43
  let v49 : BitVec 32 := Scalar.addi c0_i32_44 v48
  v49.toNat
def k0_dev11 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v50 : BitVec 32 := Scalar.addi v2 c11_i32
  let c16_i32_45 : BitVec 32 := 16#32
  let v51 : BitVec 32 := Scalar.remsi v50 c16_i32_45
  let c1_i32_47 : BitVec 32 := 1#32
  let v52 : BitVec 32 := Scalar.muli v51 c1_i32_47
  let v53 : BitVec 32 := Scalar.addi c0_i32_48 v52
  v53.toNat
def k0_dev12 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v54 : BitVec 32 := Scalar.addi v2 c12_i32
  let c16_i32_49 : BitVec 32 := 16#32
  let v55 : BitVec 32 := Scalar.remsi v54 c16_i32_49
  let c1_i32_51 : BitVec 32 := 1#32
  let v56 : BitVec 32 := Scalar.muli v55 c1_i32_51
  let v57 : BitVec 32 := Scalar.addi c0_i32_52 v56
  v57.toNat
def k0_dev13 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v58 : BitVec 32 := Scalar.addi v2 c13_i32
  let c16_i32_53 : BitVec 32 := 16#32
  let v59 : BitVec 32 := Scalar.remsi v58 c16_i32_53
  let c1_i32_55 : BitVec 32 := 1#32
  let v60 : BitVec 32 := Scalar.muli v59 c1_i32_55
  let v61 : BitVec 32 := Scalar.addi c0_i32_56 v60
  v61.toNat
def k0_dev14 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v62 : BitVec 32 := Scalar.addi v2 c14_i32
  let c16_i32_57 : BitVec 32 := 16#32
  let v63 : BitVec 32 := Scalar.remsi v62 c16_i32_57
  let c1_i32_59 : BitVec 32 := 1#32
  let v64 : BitVec 32 := Scalar.muli v63 c1_i32_59
  let v65 : BitVec 32 := Scalar.addi c0_i32_60 v64
  v65.toNat
def k0_dev15 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v66 : BitVec 32 := Scalar.addi v2 c15_i32
  let c16_i32_61 : BitVec 32 := 16#32
  let v67 : BitVec 32 := Scalar.remsi v66 c16_i32_61
  let c1_i32_63 : BitVec 32 := 1#32
  let v68 : BitVec 32 := Scalar.muli v67 c1_i32_63
  let v69 : BitVec 32 := Scalar.addi c0_i32_64 v68
  v69.toNat
def k0_dev16 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_66 : BitVec 32 := 1#32
  let v70 : BitVec 32 := Scalar.addi v2 c1_i32_66
  let c16_i32_67 : BitVec 32 := 16#32
  let v71 : BitVec 32 := Scalar.remsi v70 c16_i32_67
  let c1_i32_71 : BitVec 32 := 1#32
  let v72 : BitVec 32 := Scalar.muli v71 c1_i32_71
  let v73 : BitVec 32 := Scalar.addi c0_i32_72 v72
  v73.toNat
def k0_dev17 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_76 : BitVec 32 := 2#32
  let v80 : BitVec 32 := Scalar.addi v2 c2_i32_76
  let c16_i32_77 : BitVec 32 := 16#32
  let v81 : BitVec 32 := Scalar.remsi v80 c16_i32_77
  let c1_i32_81 : BitVec 32 := 1#32
  let v82 : BitVec 32 := Scalar.muli v81 c1_i32_81
  let v83 : BitVec 32 := Scalar.addi c0_i32_82 v82
  v83.toNat
def k0_dev18 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_86 : BitVec 32 := 3#32
  let v90 : BitVec 32 := Scalar.addi v2 c3_i32_86
  let c16_i32_87 : BitVec 32 := 16#32
  let v91 : BitVec 32 := Scalar.remsi v90 c16_i32_87
  let c1_i32_91 : BitVec 32 := 1#32
  let v92 : BitVec 32 := Scalar.muli v91 c1_i32_91
  let v93 : BitVec 32 := Scalar.addi c0_i32_92 v92
  v93.toNat
def k0_dev19 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_96 : BitVec 32 := 4#32
  let v100 : BitVec 32 := Scalar.addi v2 c4_i32_96
  let c16_i32_97 : BitVec 32 := 16#32
  let v101 : BitVec 32 := Scalar.remsi v100 c16_i32_97
  let c1_i32_101 : BitVec 32 := 1#32
  let v102 : BitVec 32 := Scalar.muli v101 c1_i32_101
  let v103 : BitVec 32 := Scalar.addi c0_i32_102 v102
  v103.toNat
def k0_dev20 (d0 : Dev nD) : Nat :=
  let c0_i32_112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_106 : BitVec 32 := 5#32
  let v110 : BitVec 32 := Scalar.addi v2 c5_i32_106
  let c16_i32_107 : BitVec 32 := 16#32
  let v111 : BitVec 32 := Scalar.remsi v110 c16_i32_107
  let c1_i32_111 : BitVec 32 := 1#32
  let v112 : BitVec 32 := Scalar.muli v111 c1_i32_111
  let v113 : BitVec 32 := Scalar.addi c0_i32_112 v112
  v113.toNat
def k0_dev21 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_116 : BitVec 32 := 6#32
  let v120 : BitVec 32 := Scalar.addi v2 c6_i32_116
  let c16_i32_117 : BitVec 32 := 16#32
  let v121 : BitVec 32 := Scalar.remsi v120 c16_i32_117
  let c1_i32_121 : BitVec 32 := 1#32
  let v122 : BitVec 32 := Scalar.muli v121 c1_i32_121
  let v123 : BitVec 32 := Scalar.addi c0_i32_122 v122
  v123.toNat
def k0_dev22 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_126 : BitVec 32 := 7#32
  let v130 : BitVec 32 := Scalar.addi v2 c7_i32_126
  let c16_i32_127 : BitVec 32 := 16#32
  let v131 : BitVec 32 := Scalar.remsi v130 c16_i32_127
  let c1_i32_131 : BitVec 32 := 1#32
  let v132 : BitVec 32 := Scalar.muli v131 c1_i32_131
  let v133 : BitVec 32 := Scalar.addi c0_i32_132 v132
  v133.toNat
def k0_dev23 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_136 : BitVec 32 := 8#32
  let v140 : BitVec 32 := Scalar.addi v2 c8_i32_136
  let c16_i32_137 : BitVec 32 := 16#32
  let v141 : BitVec 32 := Scalar.remsi v140 c16_i32_137
  let c1_i32_141 : BitVec 32 := 1#32
  let v142 : BitVec 32 := Scalar.muli v141 c1_i32_141
  let v143 : BitVec 32 := Scalar.addi c0_i32_142 v142
  v143.toNat
def k0_dev24 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_146 : BitVec 32 := 9#32
  let v150 : BitVec 32 := Scalar.addi v2 c9_i32_146
  let c16_i32_147 : BitVec 32 := 16#32
  let v151 : BitVec 32 := Scalar.remsi v150 c16_i32_147
  let c1_i32_151 : BitVec 32 := 1#32
  let v152 : BitVec 32 := Scalar.muli v151 c1_i32_151
  let v153 : BitVec 32 := Scalar.addi c0_i32_152 v152
  v153.toNat
def k0_dev25 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_156 : BitVec 32 := 10#32
  let v160 : BitVec 32 := Scalar.addi v2 c10_i32_156
  let c16_i32_157 : BitVec 32 := 16#32
  let v161 : BitVec 32 := Scalar.remsi v160 c16_i32_157
  let c1_i32_161 : BitVec 32 := 1#32
  let v162 : BitVec 32 := Scalar.muli v161 c1_i32_161
  let v163 : BitVec 32 := Scalar.addi c0_i32_162 v162
  v163.toNat
def k0_dev26 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_166 : BitVec 32 := 11#32
  let v170 : BitVec 32 := Scalar.addi v2 c11_i32_166
  let c16_i32_167 : BitVec 32 := 16#32
  let v171 : BitVec 32 := Scalar.remsi v170 c16_i32_167
  let c1_i32_171 : BitVec 32 := 1#32
  let v172 : BitVec 32 := Scalar.muli v171 c1_i32_171
  let v173 : BitVec 32 := Scalar.addi c0_i32_172 v172
  v173.toNat
def k0_dev27 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_176 : BitVec 32 := 12#32
  let v180 : BitVec 32 := Scalar.addi v2 c12_i32_176
  let c16_i32_177 : BitVec 32 := 16#32
  let v181 : BitVec 32 := Scalar.remsi v180 c16_i32_177
  let c1_i32_181 : BitVec 32 := 1#32
  let v182 : BitVec 32 := Scalar.muli v181 c1_i32_181
  let v183 : BitVec 32 := Scalar.addi c0_i32_182 v182
  v183.toNat
def k0_dev28 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_186 : BitVec 32 := 13#32
  let v190 : BitVec 32 := Scalar.addi v2 c13_i32_186
  let c16_i32_187 : BitVec 32 := 16#32
  let v191 : BitVec 32 := Scalar.remsi v190 c16_i32_187
  let c1_i32_191 : BitVec 32 := 1#32
  let v192 : BitVec 32 := Scalar.muli v191 c1_i32_191
  let v193 : BitVec 32 := Scalar.addi c0_i32_192 v192
  v193.toNat
def k0_dev29 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_196 : BitVec 32 := 14#32
  let v200 : BitVec 32 := Scalar.addi v2 c14_i32_196
  let c16_i32_197 : BitVec 32 := 16#32
  let v201 : BitVec 32 := Scalar.remsi v200 c16_i32_197
  let c1_i32_201 : BitVec 32 := 1#32
  let v202 : BitVec 32 := Scalar.muli v201 c1_i32_201
  let v203 : BitVec 32 := Scalar.addi c0_i32_202 v202
  v203.toNat
def k0_dev30 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_206 : BitVec 32 := 15#32
  let v210 : BitVec 32 := Scalar.addi v2 c15_i32_206
  let c16_i32_207 : BitVec 32 := 16#32
  let v211 : BitVec 32 := Scalar.remsi v210 c16_i32_207
  let c1_i32_211 : BitVec 32 := 1#32
  let v212 : BitVec 32 := Scalar.muli v211 c1_i32_211
  let v213 : BitVec 32 := Scalar.addi c0_i32_212 v212
  v213.toNat
def k0_dev31 (d0 : Dev nD) : Nat :=
  let c0_i32_1318_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1314_r0 : BitVec 32 := 1#32
  let v1788_r0 : BitVec 32 := Scalar.addi v2 c1_i32_1314_r0
  let c16_i32_1315_r0 : BitVec 32 := 16#32
  let v1789_r0 : BitVec 32 := Scalar.remsi v1788_r0 c16_i32_1315_r0
  let c1_i32_1317_r0 : BitVec 32 := 1#32
  let v1790_r0 : BitVec 32 := Scalar.muli v1789_r0 c1_i32_1317_r0
  let v1791_r0 : BitVec 32 := Scalar.addi c0_i32_1318_r0 v1790_r0
  v1791_r0.toNat
def k0_dev32 (d0 : Dev nD) : Nat :=
  let c0_i32_1323_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1319_r0 : BitVec 32 := 2#32
  let v1792_r0 : BitVec 32 := Scalar.addi v2 c2_i32_1319_r0
  let c16_i32_1320_r0 : BitVec 32 := 16#32
  let v1793_r0 : BitVec 32 := Scalar.remsi v1792_r0 c16_i32_1320_r0
  let c1_i32_1322_r0 : BitVec 32 := 1#32
  let v1794_r0 : BitVec 32 := Scalar.muli v1793_r0 c1_i32_1322_r0
  let v1795_r0 : BitVec 32 := Scalar.addi c0_i32_1323_r0 v1794_r0
  v1795_r0.toNat
def k0_dev33 (d0 : Dev nD) : Nat :=
  let c0_i32_1328_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1324_r0 : BitVec 32 := 3#32
  let v1796_r0 : BitVec 32 := Scalar.addi v2 c3_i32_1324_r0
  let c16_i32_1325_r0 : BitVec 32 := 16#32
  let v1797_r0 : BitVec 32 := Scalar.remsi v1796_r0 c16_i32_1325_r0
  let c1_i32_1327_r0 : BitVec 32 := 1#32
  let v1798_r0 : BitVec 32 := Scalar.muli v1797_r0 c1_i32_1327_r0
  let v1799_r0 : BitVec 32 := Scalar.addi c0_i32_1328_r0 v1798_r0
  v1799_r0.toNat
def k0_dev34 (d0 : Dev nD) : Nat :=
  let c0_i32_1333_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1329_r0 : BitVec 32 := 4#32
  let v1800_r0 : BitVec 32 := Scalar.addi v2 c4_i32_1329_r0
  let c16_i32_1330_r0 : BitVec 32 := 16#32
  let v1801_r0 : BitVec 32 := Scalar.remsi v1800_r0 c16_i32_1330_r0
  let c1_i32_1332_r0 : BitVec 32 := 1#32
  let v1802_r0 : BitVec 32 := Scalar.muli v1801_r0 c1_i32_1332_r0
  let v1803_r0 : BitVec 32 := Scalar.addi c0_i32_1333_r0 v1802_r0
  v1803_r0.toNat
def k0_dev35 (d0 : Dev nD) : Nat :=
  let c0_i32_1338_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1334_r0 : BitVec 32 := 5#32
  let v1804_r0 : BitVec 32 := Scalar.addi v2 c5_i32_1334_r0
  let c16_i32_1335_r0 : BitVec 32 := 16#32
  let v1805_r0 : BitVec 32 := Scalar.remsi v1804_r0 c16_i32_1335_r0
  let c1_i32_1337_r0 : BitVec 32 := 1#32
  let v1806_r0 : BitVec 32 := Scalar.muli v1805_r0 c1_i32_1337_r0
  let v1807_r0 : BitVec 32 := Scalar.addi c0_i32_1338_r0 v1806_r0
  v1807_r0.toNat
def k0_dev36 (d0 : Dev nD) : Nat :=
  let c0_i32_1343_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1339_r0 : BitVec 32 := 6#32
  let v1808_r0 : BitVec 32 := Scalar.addi v2 c6_i32_1339_r0
  let c16_i32_1340_r0 : BitVec 32 := 16#32
  let v1809_r0 : BitVec 32 := Scalar.remsi v1808_r0 c16_i32_1340_r0
  let c1_i32_1342_r0 : BitVec 32 := 1#32
  let v1810_r0 : BitVec 32 := Scalar.muli v1809_r0 c1_i32_1342_r0
  let v1811_r0 : BitVec 32 := Scalar.addi c0_i32_1343_r0 v1810_r0
  v1811_r0.toNat
def k0_dev37 (d0 : Dev nD) : Nat :=
  let c0_i32_1348_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1344_r0 : BitVec 32 := 7#32
  let v1812_r0 : BitVec 32 := Scalar.addi v2 c7_i32_1344_r0
  let c16_i32_1345_r0 : BitVec 32 := 16#32
  let v1813_r0 : BitVec 32 := Scalar.remsi v1812_r0 c16_i32_1345_r0
  let c1_i32_1347_r0 : BitVec 32 := 1#32
  let v1814_r0 : BitVec 32 := Scalar.muli v1813_r0 c1_i32_1347_r0
  let v1815_r0 : BitVec 32 := Scalar.addi c0_i32_1348_r0 v1814_r0
  v1815_r0.toNat
def k0_dev38 (d0 : Dev nD) : Nat :=
  let c0_i32_1353_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1349_r0 : BitVec 32 := 8#32
  let v1816_r0 : BitVec 32 := Scalar.addi v2 c8_i32_1349_r0
  let c16_i32_1350_r0 : BitVec 32 := 16#32
  let v1817_r0 : BitVec 32 := Scalar.remsi v1816_r0 c16_i32_1350_r0
  let c1_i32_1352_r0 : BitVec 32 := 1#32
  let v1818_r0 : BitVec 32 := Scalar.muli v1817_r0 c1_i32_1352_r0
  let v1819_r0 : BitVec 32 := Scalar.addi c0_i32_1353_r0 v1818_r0
  v1819_r0.toNat
def k0_dev39 (d0 : Dev nD) : Nat :=
  let c0_i32_1358_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1354_r0 : BitVec 32 := 9#32
  let v1820_r0 : BitVec 32 := Scalar.addi v2 c9_i32_1354_r0
  let c16_i32_1355_r0 : BitVec 32 := 16#32
  let v1821_r0 : BitVec 32 := Scalar.remsi v1820_r0 c16_i32_1355_r0
  let c1_i32_1357_r0 : BitVec 32 := 1#32
  let v1822_r0 : BitVec 32 := Scalar.muli v1821_r0 c1_i32_1357_r0
  let v1823_r0 : BitVec 32 := Scalar.addi c0_i32_1358_r0 v1822_r0
  v1823_r0.toNat
def k0_dev40 (d0 : Dev nD) : Nat :=
  let c0_i32_1363_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1359_r0 : BitVec 32 := 10#32
  let v1824_r0 : BitVec 32 := Scalar.addi v2 c10_i32_1359_r0
  let c16_i32_1360_r0 : BitVec 32 := 16#32
  let v1825_r0 : BitVec 32 := Scalar.remsi v1824_r0 c16_i32_1360_r0
  let c1_i32_1362_r0 : BitVec 32 := 1#32
  let v1826_r0 : BitVec 32 := Scalar.muli v1825_r0 c1_i32_1362_r0
  let v1827_r0 : BitVec 32 := Scalar.addi c0_i32_1363_r0 v1826_r0
  v1827_r0.toNat
def k0_dev41 (d0 : Dev nD) : Nat :=
  let c0_i32_1368_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1364_r0 : BitVec 32 := 11#32
  let v1828_r0 : BitVec 32 := Scalar.addi v2 c11_i32_1364_r0
  let c16_i32_1365_r0 : BitVec 32 := 16#32
  let v1829_r0 : BitVec 32 := Scalar.remsi v1828_r0 c16_i32_1365_r0
  let c1_i32_1367_r0 : BitVec 32 := 1#32
  let v1830_r0 : BitVec 32 := Scalar.muli v1829_r0 c1_i32_1367_r0
  let v1831_r0 : BitVec 32 := Scalar.addi c0_i32_1368_r0 v1830_r0
  v1831_r0.toNat
def k0_dev42 (d0 : Dev nD) : Nat :=
  let c0_i32_1373_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1369_r0 : BitVec 32 := 12#32
  let v1832_r0 : BitVec 32 := Scalar.addi v2 c12_i32_1369_r0
  let c16_i32_1370_r0 : BitVec 32 := 16#32
  let v1833_r0 : BitVec 32 := Scalar.remsi v1832_r0 c16_i32_1370_r0
  let c1_i32_1372_r0 : BitVec 32 := 1#32
  let v1834_r0 : BitVec 32 := Scalar.muli v1833_r0 c1_i32_1372_r0
  let v1835_r0 : BitVec 32 := Scalar.addi c0_i32_1373_r0 v1834_r0
  v1835_r0.toNat
def k0_dev43 (d0 : Dev nD) : Nat :=
  let c0_i32_1378_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1374_r0 : BitVec 32 := 13#32
  let v1836_r0 : BitVec 32 := Scalar.addi v2 c13_i32_1374_r0
  let c16_i32_1375_r0 : BitVec 32 := 16#32
  let v1837_r0 : BitVec 32 := Scalar.remsi v1836_r0 c16_i32_1375_r0
  let c1_i32_1377_r0 : BitVec 32 := 1#32
  let v1838_r0 : BitVec 32 := Scalar.muli v1837_r0 c1_i32_1377_r0
  let v1839_r0 : BitVec 32 := Scalar.addi c0_i32_1378_r0 v1838_r0
  v1839_r0.toNat
def k0_dev44 (d0 : Dev nD) : Nat :=
  let c0_i32_1383_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1379_r0 : BitVec 32 := 14#32
  let v1840_r0 : BitVec 32 := Scalar.addi v2 c14_i32_1379_r0
  let c16_i32_1380_r0 : BitVec 32 := 16#32
  let v1841_r0 : BitVec 32 := Scalar.remsi v1840_r0 c16_i32_1380_r0
  let c1_i32_1382_r0 : BitVec 32 := 1#32
  let v1842_r0 : BitVec 32 := Scalar.muli v1841_r0 c1_i32_1382_r0
  let v1843_r0 : BitVec 32 := Scalar.addi c0_i32_1383_r0 v1842_r0
  v1843_r0.toNat
def k0_dev45 (d0 : Dev nD) : Nat :=
  let c0_i32_1388_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1384_r0 : BitVec 32 := 15#32
  let v1844_r0 : BitVec 32 := Scalar.addi v2 c15_i32_1384_r0
  let c16_i32_1385_r0 : BitVec 32 := 16#32
  let v1845_r0 : BitVec 32 := Scalar.remsi v1844_r0 c16_i32_1385_r0
  let c1_i32_1387_r0 : BitVec 32 := 1#32
  let v1846_r0 : BitVec 32 := Scalar.muli v1845_r0 c1_i32_1387_r0
  let v1847_r0 : BitVec 32 := Scalar.addi c0_i32_1388_r0 v1846_r0
  v1847_r0.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8192x256 : Shape := ⟨2, ![8192, 256]⟩
abbrev S256x64 : Shape := ⟨2, ![256, 64]⟩
abbrev S8192x2 : Shape := ⟨2, ![8192, 2]⟩
abbrev S64x256x512 : Shape := ⟨3, ![64, 256, 512]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S8192x256x512 : Shape := ⟨3, ![8192, 256, 512]⟩
abbrev S8192x512 : Shape := ⟨2, ![8192, 512]⟩

abbrev nBuf : Space → Nat
  | .hbm => 87
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x64, .f32⟩
  | .hbm, ⟨2, _⟩ => ⟨S8192x2, .i32⟩
  | .hbm, ⟨3, _⟩ => ⟨S64x256x512, .f32⟩
  | .hbm, ⟨4, _⟩ => ⟨S8192x64, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x64, .f32⟩
  | .hbm, ⟨9, _⟩ => ⟨S8192x64, .f32⟩
  | .hbm, ⟨10, _⟩ => ⟨S8192x64, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x64, .f32⟩
  | .hbm, ⟨15, _⟩ => ⟨S8192x64, .f32⟩
  | .hbm, ⟨16, _⟩ => ⟨S8192x1, .i32⟩
  | .hbm, ⟨17, _⟩ => ⟨S8192, .i32⟩
  | .hbm, ⟨18, _⟩ => ⟨S8192x1, .i32⟩
  | .hbm, ⟨19, _⟩ => ⟨S8192, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S8192x1, .i32⟩
  | .hbm, ⟨36, _⟩ => ⟨S8192x1, .i32⟩
  | .hbm, ⟨37, _⟩ => ⟨S8192x2, .i32⟩
  | .hbm, ⟨38, _⟩ => ⟨S8192, .f32⟩
  | .hbm, ⟨39, _⟩ => ⟨S_, .i32⟩
  | .hbm, ⟨40, _⟩ => ⟨S8192, .i32⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S_, .i32⟩
  | .hbm, ⟨47, _⟩ => ⟨S8192, .i32⟩
  | .hbm, ⟨48, _⟩ => ⟨S8192, .i1⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S8192, .i32⟩
  | .hbm, ⟨53, _⟩ => ⟨S8192x1, .i32⟩
  | .hbm, ⟨54, _⟩ => ⟨S8192x1, .i32⟩
  | .hbm, ⟨55, _⟩ => ⟨S8192x2, .i32⟩
  | .hbm, ⟨56, _⟩ => ⟨S8192, .f32⟩
  | .hbm, ⟨57, _⟩ => ⟨S8192, .f32⟩
  | .hbm, ⟨58, _⟩ => ⟨S_, .i32⟩
  | .hbm, ⟨59, _⟩ => ⟨S8192, .i32⟩
  | .hbm, ⟨60, _⟩ => ⟨S8192, .i1⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S8192x1, .i32⟩
  | .hbm, ⟨66, _⟩ => ⟨S8192x256x512, .f32⟩
  | .hbm, ⟨67, _⟩ => ⟨S8192x512, .f32⟩
  | .hbm, ⟨68, _⟩ => ⟨S_, .i32⟩
  | .hbm, ⟨69, _⟩ => ⟨S8192, .i32⟩
  | .hbm, ⟨70, _⟩ => ⟨S8192, .i1⟩
  | .hbm, ⟨71, _⟩ => ⟨S_, .i32⟩
  | .hbm, ⟨72, _⟩ => ⟨S8192, .i32⟩
  | .hbm, ⟨73, _⟩ => ⟨S8192, .i32⟩
  | .hbm, ⟨74, _⟩ => ⟨S8192, .i32⟩
  | .hbm, ⟨75, _⟩ => ⟨S8192x1, .i32⟩
  | .hbm, ⟨76, _⟩ => ⟨S8192x256x512, .f32⟩
  | .hbm, ⟨77, _⟩ => ⟨S8192x512, .f32⟩
  | .hbm, ⟨78, _⟩ => ⟨S8192, .f32⟩
  | .hbm, ⟨79, _⟩ => ⟨S8192x1, .f32⟩
  | .hbm, ⟨80, _⟩ => ⟨S8192x512, .f32⟩
  | .hbm, ⟨81, _⟩ => ⟨S8192x512, .f32⟩
  | .hbm, ⟨82, _⟩ => ⟨S8192, .f32⟩
  | .hbm, ⟨83, _⟩ => ⟨S8192x1, .f32⟩
  | .hbm, ⟨84, _⟩ => ⟨S8192x512, .f32⟩
  | .hbm, ⟨85, _⟩ => ⟨S8192x512, .f32⟩
  | .hbm, ⟨86, _⟩ => ⟨S8192x512, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Nice.lean ====
/-
# The kernel's body as loops over the fifteen transfers

The printed body is straight-line: its fifteen signals, sends, receives and exits are written out. Here the
same program is written with one loop per phase over the fifteen slots of the landing buffer (`nice`), the
step of each phase stated once at a slot `k`, and shown to be the printed body (`cc0_body_eq_nice`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions

@[expose] public section

noncomputable section

namespace Cert.Moe

open Cert.KernelIdeal Cert.KernelIdeal.Gen
open Idealize.ShloMosaic Idealize.ShloMosaic.TcCoe Idealize.SL.Sem

variable {F : FTy → Type} [FloatOps F]

/-- Run a step for each entry of a list, in order. -/
def seqs {E : Type → Type} {α : Type} : List α → (α → Prog E PUnit) → Prog E PUnit
  | [], _ => pure ⟨⟩
  | a :: l, f => f a >>= fun _ => seqs l f

/-- The fifteen slots in the order the kernel takes them. -/
def slots : List (Fin 15) := [0, 1, 2, 3, 4, 5, 6, 7, 8, 9, 10, 11, 12, 13, 14]

/-- Slot `k` of the landing buffer lies inside it. -/
theorem inbSlot (k : Fin 15) : ∀ a, (![(k : ℕ), 0, 0, 0] : Fin 4 → ℕ) a + S1x4x256x512.size a ≤ S15x4x256x512.size a := by
  revert k; decide

/-- Slot `k` of the landing buffer is made of whole words. -/
theorem wordsSlot (k : Fin 15) : (Rect.unit (s := S15x4x256x512) ![(k : ℕ), 0, 0, 0] S1x4x256x512.size (inbSlot k)).WholeWords (EltTy.packing .bf16) := by
  revert k; decide

/-- Entry `k` of a table of fifteen semaphores lies inside it. -/
theorem inbSem (k : Fin 15) : ∀ a, (![(k : ℕ)] : Fin 1 → ℕ) a + S1.size a ≤ S15.size a := by
  revert k; decide

/-- Slab `j` of the four experts' weights lies inside them. -/
theorem inbSlab (j : Fin 4) : ∀ a, (![(j : ℕ), 0, 0] : Fin 3 → ℕ) a + S1x256x512.size a ≤ S4x256x512.size a := by
  revert j; decide

/-- Slot `k` of the landing buffer. -/
abbrev slotM (k : Fin 15) : Memref sig .tc .vmem S4x256x512 .bf16 :=
  ((Memref.whole cc0_scratch0).slice (Rect.unit (s := S15x4x256x512) ![(k : ℕ), 0, 0, 0] S1x4x256x512.size (inbSlot k)) (fun _ => rfl)).squeeze S4x256x512 squeezes_S1x4x256x512_S4x256x512

/-- The device's own narrowed weights. -/
abbrev mineM : Memref sig .tc .vmem S4x256x512 .bf16 := Memref.whole cc0_scratch1

/-- The send semaphore of slot `k`. -/
abbrev sendSem (k : Fin 15) : DmaSem sig :=
  ((cc0_scratch2.slice (Rect.unit (s := S15) ![(k : ℕ)] S1.size (inbSem k))).squeeze S_ squeezes_S1_S_).sem

/-- The receive semaphore of slot `k`. -/
abbrev recvSem (k : Fin 15) : DmaSem sig :=
  ((cc0_scratch3.slice (Rect.unit (s := S15) ![(k : ℕ)] S1.size (inbSem k))).squeeze S_ squeezes_S1_S_).sem

/-- The barrier semaphore. -/
abbrev barSem : Sem sig := (SemArray.scalar (sig.barrier 0 rfl) : Sems sig S_).sem

/-- The exit semaphore. -/
abbrev exitSem : Sem sig := cc0_scoped0.sem

/-- The device's own number as the kernel computes it. -/
def meW (d : Dev nD) : BitVec 32 := Scalar.remsi (Scalar.divsi (Dev.word d) 1#32) 16#32

/-- The device `k + 1` places after `d`, as the kernel computes its number. -/
def dstW (k : Fin 15) (d : Dev nD) : ℕ :=
  (Scalar.addi 0#32 (Scalar.muli (Scalar.remsi (Scalar.addi (meW d) (BitVec.ofNat 32 ((k : ℕ) + 1))) 16#32) 1#32)).toNat

/-- That number is `d + k + 1` around the ring of sixteen. -/
theorem dstW_eq : ∀ (k : Fin 15) (d : Dev nD), dstW k d = ((d : ℕ) + k + 1) % 16 := by decide +kernel

/-- It names a device. -/
theorem dstW_lt (k : Fin 15) (d : Dev nD) : dstW k d < nD := by
  rw [dstW_eq]; exact Nat.mod_lt _ (by decide)

/-- The device slot `k`'s weights came from, as the kernel computes its number. -/
def orgW (k : Fin 15) (d : Dev nD) : BitVec 32 :=
  Scalar.remsi (Scalar.addi (meW d) (BitVec.ofNat 32 (15 - (k : ℕ)))) 16#32

section Payload

variable (r0 r1 : IVec S512x1 32) (w0 w1 : FVec F S512x1 .f32) (xv : FVec F S512x256 .f32)

/-- The coefficient each row gives expert `e`. -/
def coef (e : BitVec 32) : FVec F S512x1 .f32 :=
  addf (select (cmpi .eq r0 (broadcast S512x1 e)) w0 (broadcast S512x1 (Scalar.ofBits .f32 0x00000000#32)))
    (select (cmpi .eq r1 (broadcast S512x1 e)) w1 (broadcast S512x1 (Scalar.ofBits .f32 0x00000000#32)))

/-- One expert's product: the rows scaled by their coefficients, through the expert's weights. -/
def expert (e : BitVec 32) (s : Vec F S1x256x512 .bf16) : FVec F S512x512 .f32 :=
  matmul dot_S512x256_S256x512_S512x512_1_0_0_1_n_n none
    (truncf .bf16 (mulf xv (broadcastTo S512x256 (coef r0 r1 w0 w1 e) broadcasts_S512x1_S512x256)) bitsLt_bf16_f32)
    (shapeCast S256x512 s shapeCasts_S1x256x512_S256x512) (constant S512x512 .f32 0x00000000#32)

/-- What the four experts of device `o` contribute. -/
def contrib (o : BitVec 32) (s0 s1 s2 s3 : Vec F S1x256x512 .bf16) : FVec F S512x512 .f32 :=
  addf (addf (addf (addf (broadcast S512x512 (Scalar.ofBits .f32 0x00000000#32))
    (expert r0 r1 w0 w1 xv (Scalar.addi (Scalar.muli o 4#32) 0#32) s0))
    (expert r0 r1 w0 w1 xv (Scalar.addi (Scalar.muli o 4#32) 1#32) s1))
    (expert r0 r1 w0 w1 xv (Scalar.addi (Scalar.muli o 4#32) 2#32) s2))
    (expert r0 r1 w0 w1 xv (Scalar.addi (Scalar.muli o 4#32) 3#32) s3)

end Payload

abbrev PG (F : FTy → Type) := Prog (TpuEff nD τ sig (Elt F) Λ₀ .tc)

/-- Load slab `j` of a block of four experts' weights. -/
abbrev loadSlab (mr : Memref sig .tc .vmem S4x256x512 .bf16) (j : Fin 4) : PG F (Vec F S1x256x512 .bf16) :=
  Prog.lift (.load mr (Rect.unit (s := S4x256x512) ![(j : ℕ), 0, 0] S1x256x512.size (inbSlab j)).toLoadRect (View.loadsAt_vmem h_S1x256x512))

/-- Load the whole of the output block. -/
abbrev loadOut (out : Memref sig .tc .vmem S512x512 .f32) : PG F (Vec F S512x512 .f32) :=
  Prog.lift (.load out (Rect.unit (s := S512x512) ![0, 0] S512x512.size inb_S512x512_S512x512_0_0).toLoadRect (View.loadsAt_vmem h_S512x512))

/-- Store the whole of the output block. -/
abbrev storeOut (out : Memref sig .tc .vmem S512x512 .f32) (v : Vec F S512x512 .f32) : PG F PUnit :=
  Prog.lift (.store out (Rect.unit (s := S512x512) ![0, 0] S512x512.size inb_S512x512_S512x512_0_0) v Finset.univ (View.stores_vmem_bits_univ h_S512x512 rfl) (.inl rfl))

/-- Entry: tell the device `k + 1` places on that this device is there. -/
def sigStep (d : Dev nD) (k : Fin 15) : PG F PUnit :=
  semSignalWord (⟨dstW k d, dstW_lt k d⟩ : Dev nD) barSem 1#32

/-- Send this device's weights to slot `k` of the device `k + 1` places on. -/
def sendStep (d : Dev nD) (k : Fin 15) : PG F PUnit :=
  Prog.lift (.enqueueDma mineM (.remote (Dev.tc (⟨dstW k d, dstW_lt k d⟩ : Dev nD)) (slotM k) (.dma (sendSem k))) (.dma (recvSem k))
    (Memref.isWhole_whole _).wordExact (((Memref.isWhole_whole cc0_scratch0).wordExact_slice rfl _ (wordsSlot k)).reshape _ _) ⟨⟨rfl, Or.inl rfl⟩, trivial⟩)

/-- Wait for slot `k`'s weights and add what their experts contribute. -/
def recvStep (out : Memref sig .tc .vmem S512x512 .f32) (r0 r1 : IVec S512x1 32) (w0 w1 : FVec F S512x1 .f32)
    (xv : FVec F S512x256 .f32) (d : Dev nD) (k : Fin 15) : PG F PUnit := do
  Prog.lift (.waitDma2 (recvSem k) mineM (slotM k) (Memref.isWhole_whole _).wordExact
    (((Memref.isWhole_whole cc0_scratch0).wordExact_slice rfl _ (wordsSlot k)).reshape _ _))
  let old : Vec F S512x512 .f32 ← loadOut out
  let s0 : Vec F S1x256x512 .bf16 ← loadSlab (slotM k) 0
  let s1 : Vec F S1x256x512 .bf16 ← loadSlab (slotM k) 1
  let s2 : Vec F S1x256x512 .bf16 ← loadSlab (slotM k) 2
  let s3 : Vec F S1x256x512 .bf16 ← loadSlab (slotM k) 3
  let _ : Vec F S512x512 .f32 ← loadOut out
  storeOut out (addf (shapeCast S512x512 old shapeCasts_S512x512_S512x512) (contrib r0 r1 w0 w1 xv (orgW k d) s0 s1 s2 s3))

/-- Wait for the send of slot `k` to have read this device's weights. -/
def sentStep (k : Fin 15) : PG F PUnit :=
  Prog.lift (.waitDma2 (sendSem k) (slotM k) mineM
    (((Memref.isWhole_whole cc0_scratch0).wordExact_slice rfl _ (wordsSlot k)).reshape _ _) (Memref.isWhole_whole _).wordExact)

/-- Exit: tell the device `k + 1` places on that this device is done. -/
def exitStep (d : Dev nD) (k : Fin 15) : PG F PUnit :=
  semSignalWord (⟨dstW k d, dstW_lt k d⟩ : Dev nD) exitSem 1#32

/-- The kernel's body, a loop per phase. -/
def nice (arg0 : Memref sig .tc .vmem S512x256 .f32) (arg1 : Memref sig .tc .vmem S256x64 .f32) (arg2 : Memref sig .tc .vmem S512x2 .i32)
    (arg3 : Memref sig .tc .vmem S4x256x512 .f32) (arg4 : Memref sig .tc .vmem S512x512 .f32) : PG F PUnit := do
  let d : Dev nD ← Prog.lift .deviceId
  let v3 : Vec F S4x256x512 .f32 ← Prog.lift (.load arg3 (Rect.unit (s := S4x256x512) ![0, 0, 0] S4x256x512.size inb_S4x256x512_S4x256x512_0_0_0).toLoadRect (View.loadsAt_vmem h_S4x256x512))
  let _ : Vec F S4x256x512 .bf16 ← Prog.lift (.load mineM (Rect.unit (s := S4x256x512) ![0, 0, 0] S4x256x512.size inb_S4x256x512_S4x256x512_0_0_0).toLoadRect (View.loadsAt_vmem h_S4x256x512))
  Prog.lift (.store mineM (Rect.unit (s := S4x256x512) ![0, 0, 0] S4x256x512.size inb_S4x256x512_S4x256x512_0_0_0) (k0_pay1 v3) Finset.univ (View.stores_vmem h_S4x256x512 ((Memref.isWhole_whole cc0_scratch1).storeExact_slice rfl _ packedbf16_S4x256x512_S4x256x512_0_0_0) (fun _ => rfl)) (.inl rfl))
  seqs slots (sigStep d)
  semWaitWord barSem 15#32
  seqs slots (sendStep d)
  let v220 : Vec F S512x256 .f32 ← Prog.lift (.load arg0 (Rect.unit (s := S512x256) ![0, 0] S512x256.size inb_S512x256_S512x256_0_0).toLoadRect (View.loadsAt_vmem h_S512x256))
  let v222 : Vec F S256x64 .f32 ← Prog.lift (.load arg1 (Rect.unit (s := S256x64) ![0, 0] S256x64.size inb_S256x64_S256x64_0_0).toLoadRect (View.loadsAt_vmem h_S256x64))
  let v234 : Vec F S512x1 .i32 ← Prog.lift (.load arg2 (Rect.unit (s := S512x2) ![0, 0] S512x1.size inb_S512x2_S512x1_0_0).toLoadRect (View.loadsAt_vmem h_S512x1))
  let v236 : Vec F S512x1 .i32 ← Prog.lift (.load arg2 (Rect.unit (s := S512x2) ![0, 1] S512x1.size inb_S512x2_S512x1_0_1).toLoadRect (View.loadsAt_vmem h_S512x1))
  let v256 : Vec F S512x256 .f32 ← Prog.lift (.load arg0 (Rect.unit (s := S512x256) ![0, 0] S512x256.size inb_S512x256_S512x256_0_0).toLoadRect (View.loadsAt_vmem h_S512x256))
  let s0 : Vec F S1x256x512 .bf16 ← loadSlab mineM 0
  let s1 : Vec F S1x256x512 .bf16 ← loadSlab mineM 1
  let s2 : Vec F S1x256x512 .bf16 ← loadSlab mineM 2
  let s3 : Vec F S1x256x512 .bf16 ← loadSlab mineM 3
  let _ : Vec F S512x512 .f32 ← loadOut arg4
  storeOut arg4 (contrib (k0_pay3 v234) (k0_pay4 v236) (k0_pay8 v220 v222 v234 v236) (k0_pay9 v220 v222 v234 v236) (k0_pay10 v256) (meW d) s0 s1 s2 s3)
  seqs slots (recvStep arg4 (k0_pay3 v234) (k0_pay4 v236) (k0_pay8 v220 v222 v234 v236) (k0_pay9 v220 v222 v234 v236) (k0_pay10 v256) d)
  seqs slots sentStep
  seqs slots (exitStep d)
  semWaitWord exitSem 15#32
  pure ⟨⟩

set_option maxRecDepth 65536 in
set_option maxHeartbeats 0 in
/-- The printed body is `nice`. -/
theorem cc0_body_eq_nice (arg0 : Memref sig .tc .vmem S512x256 .f32) (h0 : arg0.IsWhole) (arg1 : Memref sig .tc .vmem S256x64 .f32) (h1 : arg1.IsWhole)
    (arg2 : Memref sig .tc .vmem S512x2 .i32) (h2 : arg2.IsWhole) (arg3 : Memref sig .tc .vmem S4x256x512 .f32) (h3 : arg3.IsWhole)
    (arg4 : Memref sig .tc .vmem S512x512 .f32) (h4 : arg4.IsWhole) :
    cc0_body (F := F) arg0 h0 arg1 h1 arg2 h2 arg3 h3 arg4 h4 (Memref.whole cc0_scratch0) (Memref.isWhole_whole _) (Memref.whole cc0_scratch1) (Memref.isWhole_whole _) cc0_scratch2 cc0_scratch3 cc0_scoped0
      = nice arg0 arg1 arg2 arg3 arg4 := by chain_rfl

end Cert.Moe
end
-- ==== Proof.Protocol.lean ====
/-
# The exchange: cells, schedule, levels

Every device of the ring of sixteen has a barrier cell, an exit cell, and fifteen send and fifteen receive cells. The
schedule says what each unit landing on a cell hands its owner: a barrier unit the landing slot of the device that
raised it, a receive unit the slot filled with the sender's weights, a send unit the share of the weights the transfer
read, an exit unit nothing.
-/
module

public import proofs.«01_k».proof.Proof.Nice
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.Ring
public import Idealize.ShloMosaic.Lib.Rounds.Family

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's own copy of the rounds algebra: duties named by a step of fifteen. -/
abbrev UB : Type := URounds (GSem nD τ sig) (Fin 15)
/-- The pipeline library's copy beside it. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring -/

/-- The device `k + 1` places after `c`. -/
def at_ (c : Dev nD) (k : Fin 15) : Dev nD := ⟨((c : ℕ) + k + 1) % 16, Nat.mod_lt _ (by decide)⟩
/-- The device `k + 1` places before `c`. -/
def frm (c : Dev nD) (k : Fin 15) : Dev nD := ⟨((c : ℕ) + (15 - (k : ℕ))) % 16, Nat.mod_lt _ (by decide)⟩
/-- The step that leads back: `k + 1` places one way is `15 - k` the other. -/
def rev (k : Fin 15) : Fin 15 := ⟨14 - (k : ℕ), by omega⟩

theorem frm_at (c : Dev nD) (k : Fin 15) : frm (at_ c k) k = c := by revert c k; decide +kernel
theorem at_frm (c : Dev nD) (k : Fin 15) : at_ (frm c k) k = c := by revert c k; decide +kernel
theorem frm_rev (c : Dev nD) (k : Fin 15) : frm c (rev k) = at_ c k := by revert c k; decide +kernel
theorem rev_rev (k : Fin 15) : rev (rev k) = k := by revert k; decide

/-- Stepping `k + 1` places on is a rearrangement of the devices. -/
def shift (k : Fin 15) : Dev nD ≃ Dev nD := ⟨fun c => at_ c k, fun c => frm c k, fun c => frm_at c k, fun c => at_frm c k⟩
/-- Turning the steps round is a rearrangement of them. -/
def turn : Fin 15 ≃ Fin 15 := ⟨rev, rev, rev_rev, rev_rev⟩

/-- The device a step names, as the kernel computes it. -/
theorem dst_eq (c : Dev nD) (k : Fin 15) : (⟨dstW k c, dstW_lt k c⟩ : Dev nD) = at_ c k := Fin.ext (dstW_eq k c)

/-! ## The cells -/

/-- The names of a device's cells: the barrier, the exit, the sends, the receives. -/
abbrev CK : Type := Bool ⊕ (Fin 15 ⊕ Fin 15)

/-- The semaphore of each. -/
def csem : CK → SemLoc sig
  | .inl false => .reg barSem
  | .inl true => .reg exitSem
  | .inr (.inl k) => .dma (sendSem k)
  | .inr (.inr k) => .dma (recvSem k)

theorem csem_inj : Function.Injective csem := by decide +kernel

abbrev barCell (c : Dev nD) : GSem nD τ sig := ((c : Thread nD τ), .reg barSem)
abbrev exitCell (c : Dev nD) : GSem nD τ sig := ((c : Thread nD τ), .reg exitSem)
abbrev sendCell (c : Dev nD) (k : Fin 15) : GSem nD τ sig := ((c : Thread nD τ), .dma (sendSem k))
abbrev recvCell (c : Dev nD) (k : Fin 15) : GSem nD τ sig := ((c : Thread nD τ), .dma (recvSem k))
abbrev kcell (ck : Dev nD × CK) : GSem nD τ sig := ((ck.1 : Thread nD τ), csem ck.2)

open Classical in
/-- Which of a device's cells a semaphore is, if any. -/
def kind (s : SemLoc sig) : Option CK := if h : ∃ k, csem k = s then some h.choose else none

theorem kind_csem (k : CK) : kind (csem k) = some k := by
  have h : ∃ k', csem k' = csem k := ⟨k, rfl⟩
  unfold kind
  rw [dif_pos h]
  exact congrArg some (csem_inj h.choose_spec)

theorem kind_none {s : SemLoc sig} (h : ∀ k, csem k ≠ s) : kind s = none :=
  dif_neg fun ⟨k, hk⟩ => h k hk

theorem kind_bar : kind (.reg barSem) = some (.inl false) := kind_csem (.inl false)
theorem kind_exit : kind (.reg exitSem) = some (.inl true) := kind_csem (.inl true)
theorem kind_send (k : Fin 15) : kind (.dma (sendSem k)) = some (.inr (.inl k)) := kind_csem (.inr (.inl k))
theorem kind_recv (k : Fin 15) : kind (.dma (recvSem k)) = some (.inr (.inr k)) := kind_csem (.inr (.inr k))

/-- The credit of one transfer. -/
abbrev N : ℕ := (mineM : Memref sig .tc .vmem S4x256x512 .bf16).view.dmaCredit
theorem N_pos : 0 < N := View.dmaCredit_pos _ (by decide)

/-! ## Contents -/

/-- The experts' weights device `c` starts with, as its kernel is given them. -/
def ew (c : Dev nD) : (cc0_stg3_0 : Ref sig .tc).ty.Contents (Elt F) :=
  (win0_3.blk t0_0).view.read (Elt F) (m ((c : Thread nD τ).loc main_arg3))

/-- The same narrowed: what it sends. -/
def mybf (c : Dev nD) : (cc0_scratch1 : Ref sig .tc).ty.Contents (Elt F) := k0_pay1 (ew m c)

/-- Slot `k` of device `d`'s landing buffer at contents `f`. -/
def slotPts (d : Dev nD) (k : Fin 15) (f : Buf (Elt F) ((slotM k).view.loc (d : Thread nD τ))) : sProp 𝕄 :=
  (slotM k).view.loc (d : Thread nD τ) ↦[(slotM k).view.set]{fullShare} f

/-- Device `c`'s narrowed weights at a share `q`. -/
def minePts (c : Dev nD) (q : PosShare TreeShare) : sProp 𝕄 :=
  mineM.view.loc (c : Thread nD τ) ↦[mineM.view.set]{q} mybf m c

/-- The share the transfer of slot `k` reads device `c`'s weights at. -/
abbrev mineTok (c : Dev nD) (k : Fin 15) : sProp 𝕄 := minePts m c (Transfers.shareTok fullShare 15 k)

/-- Slot `k` of device `p` filled with the weights of the device they come from. -/
def filled (p : Dev nD) (k : Fin 15) : sProp 𝕄 :=
  iprop(∃ f, ⌜(slotM k).view.read (Elt F) f = mybf m (frm p k)⌝ ∗ slotPts p k f)

/-- What the device `k + 1` places back hands `c` with its barrier unit: its landing slot for `c`. -/
def barPay (c : Dev nD) (k : Fin 15) : sProp 𝕄 := iprop(∃ f, slotPts (F := F) (frm c k) (rev k) f)

instance slotPts_storable (d : Dev nD) (k : Fin 15) (f) : BI.Storable (upEmb : UEmb _ 𝕄) (slotPts (F := F) d k f) := by unfold slotPts; infer_instance
instance minePts_storable (c : Dev nD) (q) : BI.Storable (upEmb : UEmb _ 𝕄) (minePts (F := F) m c q) := by unfold minePts; infer_instance
instance filled_storable (p : Dev nD) (k : Fin 15) : BI.Storable (upEmb : UEmb _ 𝕄) (filled (F := F) m p k) := by unfold filled; infer_instance
instance barPay_storable (c : Dev nD) (k : Fin 15) : BI.Storable (upEmb : UEmb _ 𝕄) (barPay (F := F) c k) := by unfold barPay; infer_instance

/-! ## The schedule -/

/-- The duties of a cell by its kind. -/
def dutiesK : Option CK → Finset (Fin 15)
  | some (.inl _) => Finset.univ
  | some (.inr _) => {0}
  | none => ∅

/-- The units of a duty by the cell's kind. -/
def amountK : Option CK → ℕ
  | some (.inl _) => 1
  | _ => N

/-- What a duty hands over by the cell's kind. -/
def payK (c : Dev nD) (d : Fin 15) : Option CK → sProp 𝕄
  | some (.inl false) => barPay c d
  | some (.inr (.inl k)) => mineTok m c k
  | some (.inr (.inr k)) => filled m c k
  | _ => iprop(emp)

/-- The schedule: one round. -/
def rd : Rounds.Schedule (GSem nD τ sig) (Fin 15) 𝕄 where
  duties g r := if r = 0 ∧ g.1.2 = .tc then dutiesK (kind g.2) else ∅
  unitless _ := False
  amount g _ _ := amountK (kind g.2)
  payload g _ d := payK m g.1.1 d (kind g.2)
  amount_pos g _ _ _ := by
    unfold amountK
    split
    · exact Nat.one_pos
    · exact N_pos

instance rd_storable (g : GSem nD τ sig) (r : ℕ) (d : Fin 15) : BI.Storable (upEmb : UEmb _ 𝕄) ((rd (F := F) m).payload g r d) := by
  show BI.Storable upEmb (payK m g.1.1 d (kind g.2))
  unfold payK
  split <;> infer_instance

section Sched
variable (c : Dev nD) (k : Fin 15)

theorem duties_bar : (rd m).duties (barCell c) 0 = Finset.univ := by dsimp only [rd]; rw [if_pos ⟨rfl, rfl⟩, kind_bar]; rfl
theorem duties_exit : (rd m).duties (exitCell c) 0 = Finset.univ := by dsimp only [rd]; rw [if_pos ⟨rfl, rfl⟩, kind_exit]; rfl
theorem duties_send : (rd m).duties (sendCell c k) 0 = {0} := by dsimp only [rd]; rw [if_pos ⟨rfl, rfl⟩, kind_send]; rfl
theorem duties_recv : (rd m).duties (recvCell c k) 0 = {0} := by dsimp only [rd]; rw [if_pos ⟨rfl, rfl⟩, kind_recv]; rfl
theorem duties_later (g : GSem nD τ sig) : ∀ r, 1 ≤ r → (rd m).duties g r = ∅ :=
  fun r hr => by dsimp only [rd]; rw [if_neg fun h => by omega]

theorem amount_bar (d : Fin 15) : (rd m).amount (barCell c) 0 d = 1 := by dsimp only [rd]; rw [kind_bar]; rfl
theorem amount_exit (d : Fin 15) : (rd m).amount (exitCell c) 0 d = 1 := by dsimp only [rd]; rw [kind_exit]; rfl
theorem amount_send (d : Fin 15) : (rd m).amount (sendCell c k) 0 d = N := by dsimp only [rd]; rw [kind_send]; rfl
theorem amount_recv (d : Fin 15) : (rd m).amount (recvCell c k) 0 d = N := by dsimp only [rd]; rw [kind_recv]; rfl

theorem expect_bar : (rd m).expect (barCell c) 0 = 15 := by
  unfold Schedule.expect Schedule.amountOf
  rw [duties_bar, Finset.sum_congr rfl fun d _ => amount_bar m c d]; rfl
theorem expect_exit : (rd m).expect (exitCell c) 0 = 15 := by
  unfold Schedule.expect Schedule.amountOf
  rw [duties_exit, Finset.sum_congr rfl fun d _ => amount_exit m c d]; rfl
theorem expect_send : (rd m).expect (sendCell c k) 0 = N := by
  unfold Schedule.expect Schedule.amountOf; rw [duties_send, Finset.sum_singleton, amount_send]
theorem expect_recv : (rd m).expect (recvCell c k) 0 = N := by
  unfold Schedule.expect Schedule.amountOf; rw [duties_recv, Finset.sum_singleton, amount_recv]

theorem payload_bar (d : Fin 15) : (rd m).payload (barCell c) 0 d = barPay c d := by dsimp only [rd]; rw [kind_bar]; rfl
theorem payload_exit (d : Fin 15) : (rd m).payload (exitCell c) 0 d = iprop(emp) := by dsimp only [rd]; rw [kind_exit]; rfl
theorem payload_send (d : Fin 15) : (rd m).payload (sendCell c k) 0 d = mineTok m c k := by dsimp only [rd]; rw [kind_send]; rfl
theorem payload_recv (d : Fin 15) : (rd m).payload (recvCell c k) 0 d = filled m c k := by dsimp only [rd]; rw [kind_recv]; rfl

/-- What a barrier cell's whole round hands its owner. -/
theorem rest_bar : bigSep ((rd m).duties (barCell c) 0 \ ∅) (fun d => (rd m).payload (barCell c) 0 d) = bigSep Finset.univ fun d => barPay (F := F) c d := by
  rw [Finset.sdiff_empty, duties_bar]; exact bigSep_congr fun d _ => payload_bar m c d
theorem rest_send : bigSep ((rd m).duties (sendCell c k) 0 \ ∅) (fun d => (rd m).payload (sendCell c k) 0 d) = mineTok m c k := by
  rw [Finset.sdiff_empty, duties_send, bigSep_singleton, payload_send]
theorem rest_recv : bigSep ((rd m).duties (recvCell c k) 0 \ ∅) (fun d => (rd m).payload (recvCell c k) 0 d) = filled m c k := by
  rw [Finset.sdiff_empty, duties_recv, bigSep_singleton, payload_recv]

end Sched

/-! ## What each core owes; the levels -/

abbrev CT := CellTallies nD τ sig Unit

/-- The sum of a family of debts over a list of steps, the first step's last. -/
def owing : List (Fin 15) → (Fin 15 → CT) → CT
  | [], _ => 0
  | a :: l, f => owing l f + f a

theorem owing_apply (l : List (Fin 15)) (f : Fin 15 → CT) (g : GSem nD τ sig) (u : Unit) :
    owing l f g u = (l.map fun k => f k g u).sum := by
  induction l with
  | nil => rfl
  | cons a l ih =>
    show (owing l f + f a) g u = _
    rw [Pi.add_apply, Finsupp.add_apply, ih, List.map_cons, List.sum_cons, Nat.add_comm]

/-- Over the fifteen steps it is the sum over all. -/
theorem owing_slots (f : Fin 15 → CT) (g : GSem nD τ sig) (u : Unit) : owing slots f g u = ∑ k, f k g u := by
  rw [owing_apply, ← List.sum_toFinset _ (by decide : slots.Nodup)]
  exact Finset.sum_congr (by decide) fun _ _ => rfl

def barOwe (c : Dev nD) (k : Fin 15) : CT := tallyAt (barCell (at_ c k)) () 1
def recvOwe (c : Dev nD) (k : Fin 15) : CT := tallyAt (recvCell (at_ c k) k) () N
def exitOwe (c : Dev nD) (k : Fin 15) : CT := tallyAt (exitCell (at_ c k)) () 1

/-- What is owed through the exit; -/
def O₃ (c : Dev nD) : CT := owing slots (exitOwe c)
/-- and with the transfers; -/
def O₂ (c : Dev nD) : CT := O₃ c + owing slots (recvOwe c)
/-- and with the barrier: all of it. -/
def O₀ (c : Dev nD) : CT := O₂ c + owing slots (barOwe c)

/-- The level of a kind of cell. -/
def lvK : Option CK → ℕ
  | some (.inl false) => 1
  | some (.inl true) => 3
  | some (.inr (.inr _)) => 2
  | _ => 0

def L (g : GSem nD τ sig) : Finset Unit := if g.1.2 = .tc then {()} else ∅
def lv (g : GSem nD τ sig) (_ : Unit) : ℕ := lvK (kind g.2)

theorem L_of_ne (g : GSem nD τ sig) (h : g.1.2 ≠ .tc) : L g = ∅ := if_neg h
theorem L_tc (c : Dev nD) (sm : SemLoc sig) : L ((c : Thread nD τ), sm) = {()} := if_pos rfl

/-- Every debt of `O` is on a TensorCore's cell above level `n`. -/
def Above (n : ℕ) (O : CT) : Prop := ∀ g u, 0 < O g u → g.1.2 = .tc ∧ n < lv g u

theorem Above.zero (n : ℕ) : Above n 0 := fun _ _ h => absurd h (Nat.lt_irrefl 0)

theorem Above.add {n : ℕ} {O O' : CT} (h : Above n O) (h' : Above n O') : Above n (O + O') := fun g u hg => by
  rw [Pi.add_apply, Finsupp.add_apply] at hg
  rcases Nat.eq_zero_or_pos (O g u) with h0 | h0
  · exact h' g u (by omega)
  · exact h g u h0

theorem Above.tally {n : ℕ} (c : Dev nD) (s : SemLoc sig) (a : ℕ) (h : n < lvK (kind s)) : Above n (tallyAt ((c : Thread nD τ), s) () a) := fun g u hg => by
  rw [tallyAt_apply] at hg
  by_cases hc : g = ((c : Thread nD τ), s) ∧ u = ()
  · rw [hc.1]; exact ⟨rfl, h⟩
  · rw [if_neg hc] at hg; exact absurd hg (Nat.lt_irrefl 0)

theorem Above.owing {n : ℕ} (l : List (Fin 15)) {f : Fin 15 → CT} (h : ∀ k, Above n (f k)) : Above n (Moe.owing l f) := by
  induction l with
  | nil => exact Above.zero n
  | cons a l ih => exact ih.add (h a)

theorem above_exit {n : ℕ} (hn : n < 3) (c : Dev nD) (l : List (Fin 15)) : Above n (owing l (exitOwe c)) :=
  Above.owing l fun k => Above.tally _ _ _ (by rw [kind_exit]; exact hn)
theorem above_recv {n : ℕ} (hn : n < 2) (c : Dev nD) (l : List (Fin 15)) : Above n (owing l (recvOwe c)) :=
  Above.owing l fun k => Above.tally _ _ _ (by rw [kind_recv]; exact hn)
theorem above_bar {n : ℕ} (hn : n < 1) (c : Dev nD) (l : List (Fin 15)) : Above n (owing l (barOwe c)) :=
  Above.owing l fun k => Above.tally _ _ _ (by rw [kind_bar]; exact hn)

theorem above_O₃ {n : ℕ} (hn : n < 3) (c : Dev nD) : Above n (O₃ c) := above_exit hn c slots
theorem above_O₂ {n : ℕ} (hn : n < 2) (c : Dev nD) : Above n (O₂ c) := (above_O₃ (by omega) c).add (above_recv hn c slots)
theorem above_O₀ {n : ℕ} (hn : n < 1) (c : Dev nD) : Above n (O₀ c) := (above_O₂ (by omega) c).add (above_bar hn c slots)

/-- A device may wait on a cell of level at most `n` while every debt it has is above `n`. -/
theorem mayWait_of (c : Dev nD) (s : SemLoc sig) (n : ℕ) (O : CT) (hs : lvK (kind s) ≤ n) (hO : Above n O) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

end Cert.Moe
end
-- ==== Proof.Steps.lean ====
/-
# One step of each phase, and the loops

A phase of the body is a step run for each of the fifteen slots. `wp_seqs` runs a phase from what its step needs and
leaves; the lemmas after it are the steps: the entry signal, the send, the receive, the wait for a send, the exit signal.
-/
module

public import proofs.«01_k».proof.Proof.Protocol

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## Contents of the result -/

section Contents
variable (c : Dev nD)

/-- The rows device `c` starts with; -/
def xin : (cc0_stg0_0 : Ref sig .tc).ty.Contents (Elt F) := (win0_0.blk t0_0).view.read (Elt F) (m ((c : Thread nD τ).loc main_arg0))
/-- the router's weights; -/
def rwin : (cc0_stg1_0 : Ref sig .tc).ty.Contents (Elt F) := (win0_1.blk t0_0).view.read (Elt F) (m ((c : Thread nD τ).loc main_arg1))
/-- the two experts of each row. -/
def ixin : (cc0_stg2_0 : Ref sig .tc).ty.Contents (Elt F) := (win0_2.blk t0_0).view.read (Elt F) (m ((c : Thread nD τ).loc main_arg2))

/-- The column of first experts; -/
def col0 : Vec F S512x1 .i32 := (Memref.whole cc0_stg2_0).view.readAt (Elt F) (Rect.unit (s := S512x2) ![0, 0] S512x1.size inb_S512x2_S512x1_0_0).toLoadRect (ixin m c)
/-- the column of second experts. -/
def col1 : Vec F S512x1 .i32 := (Memref.whole cc0_stg2_0).view.readAt (Elt F) (Rect.unit (s := S512x2) ![0, 1] S512x1.size inb_S512x2_S512x1_0_1).toLoadRect (ixin m c)

/-- Slab `j` of a block of four experts' weights. -/
def slab (j : Fin 4) (X : (cc0_scratch1 : Ref sig .tc).ty.Contents (Elt F)) : Vec F S1x256x512 .bf16 :=
  fun x => X ((Rect.unit (s := S4x256x512) ![(j : ℕ), 0, 0] S1x256x512.size (inbSlab j)).toLoadRect.idx x)

/-- What the experts numbered from `4 o` with weights `X` contribute to device `c`'s rows. -/
def part (o : BitVec 32) (X : (cc0_scratch1 : Ref sig .tc).ty.Contents (Elt F)) : FVec F S512x512 .f32 :=
  contrib (k0_pay3 (col0 m c)) (k0_pay4 (col1 m c)) (k0_pay8 (xin m c) (rwin m c) (col0 m c) (col1 m c)) (k0_pay9 (xin m c) (rwin m c) (col0 m c) (col1 m c))
    (k0_pay10 (xin m c)) o (slab 0 X) (slab 1 X) (slab 2 X) (slab 3 X)

/-- The result after slot `k`, from the one before it. -/
def addIn (old : Vec F S512x512 .f32) (k : Fin 15) : Vec F S512x512 .f32 :=
  addf (shapeCast S512x512 old shapeCasts_S512x512_S512x512) (part m c (orgW k c) (mybf m (frm c k)))

/-- The result on device `c`. -/
def outAt : (cc0_stg4_0 : Ref sig .tc).ty.Contents (Elt F) := slots.foldl (addIn m c) (part m c (meW c) (mybf m c))

end Contents

/-! ## The records every step reads -/

/-- Every cell's invariant and that every cell is at round 0. -/
def records (K : Dev nD × CK → ℕ) : sProp 𝕄 :=
  iprop((bigSep Finset.univ fun ck : Dev nD × CK => cellInv ER (rd m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (ck : Dev nD × CK) :
    (bigSep Finset.univ fun ck : Dev nD × CK => (cellInv ER (rd m) (K ck) (kcell ck) : sProp 𝕄)) ⊢ cellInv ER (rd m) (K ck) (kcell ck) :=
  bigSep_elim (Finset.mem_univ ck)
theorem reached_at (ck : Dev nD × CK) :
    (bigSep Finset.univ fun ck : Dev nD × CK => (reached ER (kcell ck) 0 : sProp 𝕄)) ⊢ reached ER (kcell ck) 0 :=
  bigSep_elim (Finset.mem_univ ck)
theorem records_at (K : Dev nD × CK → ℕ) (ck : Dev nD × CK) :
    records m K ⊢ iprop(cellInv ER (rd m) (K ck) (kcell ck) ∗ reached ER (kcell ck) 0) := by
  unfold records
  exact BIClass.sep_mono (inv_at m K ck) (reached_at ck)

/-- What a device still owes, whatever waits it has made. -/
def owe (c : Dev nD) (O : CT) : sProp 𝕄 := iprop(∃ W, owes (c : Thread nD τ) O W)

/-! ## The loop -/

/-- One resource per entry of a list. -/
def all {α : Type} : List α → (α → sProp 𝕄) → sProp 𝕄
  | [], _ => iprop(emp)
  | a :: l, Φ => iprop(Φ a ∗ all l Φ)

theorem all_slots (Φ : Fin 15 → sProp 𝕄) : all slots Φ ⊣⊢ bigSep Finset.univ Φ := by
  have h (l : List (Fin 15)) : l.Nodup → all l Φ = bigSep l.toFinset Φ := by
    induction l with
    | nil => intro _; rw [List.toFinset_nil, bigSep_empty]; rfl
    | cons a l ih =>
      intro hn
      rw [List.toFinset_cons, bigSep_insert (by rw [List.mem_toFinset]; exact (List.nodup_cons.mp hn).1), ← ih (List.nodup_cons.mp hn).2]
      rfl
  rw [h slots (by decide), show slots.toFinset = Finset.univ from by decide]

/-- A phase: its steps run in order, each from its own resource and the running one, under facts kept throughout. -/
theorem wp_seqs (c : Dev nD) (P : sProp 𝕄) [BI.Persistent P] (f : Fin 15 → PG F PUnit) (todo done : Fin 15 → sProp 𝕄) (R : List (Fin 15) → sProp 𝕄)
    (step : ∀ a l, iprop(P ∗ todo a ∗ R (a :: l)) ⊢ wp frame (wpE (defs₀ (F := F)) 𝒱₀ (c : Thread nD τ) none) Set.univ (f a) (fun _ => iprop(done a ∗ R l)))
    (l : List (Fin 15)) :
    iprop(P ∗ all l todo ∗ R l) ⊢ wp frame (wpE (defs₀ (F := F)) 𝒱₀ (c : Thread nD τ) none) Set.univ (seqs l f) (fun _ => iprop(all l done ∗ R [])) := by
  induction l with
  | nil =>
    unfold seqs all
    rw [Prog.pure_eq_ret, wp_ret]
    iintro ⟨#HP, -, HR⟩
    imodintro
    isplitr [HR]; · iempintro
    iexact HR
  | cons a l ih =>
    unfold seqs
    rw [wp_bind]
    simp only [all]
    iintro ⟨#HP, ⟨Ha, Hl⟩, HR⟩
    iapply (wp_wand frame (wpE (defs₀ (F := F)) 𝒱₀ (c : Thread nD τ) none) Set.univ (p := f a) (Q := fun _ => iprop(done a ∗ R l))) $$ [Ha HR]
    · iapply (step a l)
      isplitr; · iexact HP
      isplitl [Ha]; · iexact Ha
      iexact HR
    iintro %u ⟨Hd, HR⟩
    iapply (wp_wand frame (wpE (defs₀ (F := F)) 𝒱₀ (c : Thread nD τ) none) Set.univ (p := seqs l f) (Q := fun _ => iprop(all l done ∗ R []))) $$ [Hl HR]
    · iapply ih
      isplitr; · iexact HP
      isplitl [Hl]; · iexact Hl
      iexact HR
    iintro %u' ⟨Hl, HR⟩
    isplitr [HR]
    · isplitl [Hd]; · iexact Hd
      iexact Hl
    iexact HR

/-- A phase over the fifteen slots with the rest of the program after it. -/
theorem wp_phase (c : Dev nD) (P : sProp 𝕄) [BI.Persistent P] (f : Fin 15 → PG F PUnit) (todo done : Fin 15 → sProp 𝕄) (R : List (Fin 15) → sProp 𝕄)
    (step : ∀ a l, iprop(P ∗ todo a ∗ R (a :: l)) ⊢ wp frame (wpE (defs₀ (F := F)) 𝒱₀ (c : Thread nD τ) none) Set.univ (f a) (fun _ => iprop(done a ∗ R l)))
    {k : PUnit → PG F PUnit} {Q : PUnit → sProp 𝕄} :
    iprop(P ∗ bigSep Finset.univ todo ∗ R slots)
      ⊢ iprop(((bigSep Finset.univ done ∗ R []) -∗ wp frame (wpE (defs₀ (F := F)) 𝒱₀ (c : Thread nD τ) none) Set.univ (k ⟨⟩) Q)
        -∗ wp frame (wpE (defs₀ (F := F)) 𝒱₀ (c : Thread nD τ) none) Set.univ (seqs slots f >>= k) Q) := by
  rw [wp_bind]
  iintro ⟨#HP, Ht, HR⟩ Hk
  ihave Ht' := (all_slots (F := F) todo).2 $$ Ht
  iapply (wp_wand frame (wpE (defs₀ (F := F)) 𝒱₀ (c : Thread nD τ) none) Set.univ (p := seqs slots f) (Q := fun _ => iprop(all slots done ∗ R []))) $$ [Ht' HR]
  · iapply (wp_seqs c P f todo done R step slots)
    isplitr; · iexact HP
    isplitl [Ht']; · iexact Ht'
    iexact HR
  iintro %u ⟨Hd, HR⟩
  iapply Hk
  isplitl [Hd]
  · iapply (all_slots (F := F) done).1; iexact Hd
  iexact HR

/-! ## The steps -/

section Steps

variable (K : Dev nD × CK → ℕ) (c : Dev nD)

/-- The entry signal of step `k`: the device `k + 1` places on is handed this device's slot for it. -/
theorem sig_step (k : Fin 15) (l : List (Fin 15)) :
    iprop(records m K ∗ (dutyTok ER (barCell (at_ c k)) 0 k ∗ ∃ f, slotPts (F := F) c (rev k) f) ∗ owe c (O₂ c + owing (k :: l) (barOwe c)))
      ⊢ wp frame (wpE (defs₀ (F := F)) 𝒱₀ (c : Thread nD τ) none) Set.univ (sigStep c k) (fun _ => iprop(emp ∗ owe (F := F) c (O₂ c + owing l (barOwe c)))) := by
  unfold sigStep owe
  rw [dst_eq]
  simp only [semSignalWord, Prog.lift]
  iintro ⟨#HR, ⟨Ht, ⟨%f, Hs⟩⟩, ⟨%W, HO⟩⟩
  ihave Hb := (records_at m K (at_ c k, .inl false)) $$ HR
  icases Hb with ⟨#HI, #Hr⟩
  iapply (Rounds.wp_signal 𝒱₀ ER (rd m) (c : Thread nD τ) none (dst := (at_ c k : Thread nD τ)) (κ := K (at_ c k, .inl false))
      (d := k) (by rw [duties_bar]; exact Finset.mem_univ _) ((amount_bar m (at_ c k) k).trans (by decide)) () (O₂ c + owing l (barOwe c))
      (add_assoc (O₂ c) (owing l (barOwe c)) (barOwe c k)).symm) $$ [HO Ht Hs]
  · isplitr; · iexact HI
    isplitl [HO]; · iexact HO
    isplitl [Ht]; · iexact Ht
    isplitl [Hs]
    · rw [payload_bar]; unfold barPay; rw [frm_at]; iexists f; iexact Hs
    iexact Hr
  iintro HO
  rw [wp_ret]; imodintro
  isplitr [HO]; · iempintro
  iexists W; iexact HO

/-- The exit signal of step `k`. -/
theorem exit_step (k : Fin 15) (l : List (Fin 15)) :
    iprop(records m K ∗ dutyTok ER (exitCell (at_ c k)) 0 k ∗ owe c (owing (k :: l) (exitOwe c)))
      ⊢ wp frame (wpE (defs₀ (F := F)) 𝒱₀ (c : Thread nD τ) none) Set.univ (exitStep c k) (fun _ => iprop(emp ∗ owe (F := F) c (owing l (exitOwe c)))) := by
  unfold exitStep owe
  rw [dst_eq]
  simp only [semSignalWord, Prog.lift]
  iintro ⟨#HR, Ht, ⟨%W, HO⟩⟩
  ihave Hb := (records_at m K (at_ c k, .inl true)) $$ HR
  icases Hb with ⟨#HI, #Hr⟩
  iapply (Rounds.wp_signal 𝒱₀ ER (rd m) (c : Thread nD τ) none (dst := (at_ c k : Thread nD τ)) (κ := K (at_ c k, .inl true))
      (d := k) (by rw [duties_exit]; exact Finset.mem_univ _) ((amount_exit m (at_ c k) k).trans (by decide)) () (owing l (exitOwe c)) rfl) $$ [HO Ht]
  · isplitr; · iexact HI
    isplitl [HO]; · iexact HO
    isplitl [Ht]; · iexact Ht
    isplitr; · rw [payload_exit]; iempintro
    iexact Hr
  iintro HO
  rw [wp_ret]; imodintro
  isplitr [HO]; · iempintro
  iexists W; iexact HO

/-- A slot written with a block's whole contents is the slot filled with them. -/
theorem filled_of_write (p : Dev nD) (k : Fin 15) (f) :
    ((slotM k).view.loc (p : Thread nD τ) ↦[(slotM k).view.set]{fullShare} ((slotM k).view.write (Elt F) f (mineM.view.read (Elt F) (mybf m (frm p k))) Finset.univ) : sProp 𝕄)
      ⊢ filled m p k := by
  unfold filled slotPts
  iintro H
  iexists ((slotM k).view.write (Elt F) f (mineM.view.read (Elt F) (mybf m (frm p k))) Finset.univ)
  isplitr
  · ipureintro
    rw [View.read_write_univ]; rfl
  iexact H

/-- The send of step `k`, addressed to the device `n` that is `k + 1` places on. -/
theorem wp_send_to (k : Fin 15) (n : Dev nD) (hn : n = at_ c k) {hsc : (slotM k : Memref sig (Dev.tc n : Thread nD τ).2.kind .vmem S4x256x512 .bf16).view.ref.isScScratch = false}
    {hsrc : (mineM : Memref sig .tc .vmem S4x256x512 .bf16).view.WordExact} {hdst : (slotM k : Memref sig .tc .vmem S4x256x512 .bf16).view.WordExact}
    {hsem : DmaTarget.Typed .vmem (.dma (recvSem k)) (.remote (Dev.tc n : Thread nD τ) (slotM k : Memref sig .tc .vmem S4x256x512 .bf16) (.dma (sendSem k)) hsc)}
    {α : Type} {Q : α → sProp 𝕄} {kk : PUnit → PG F α}
    (fn : Buf (Elt F) ((slotM k).view.loc (at_ c k : Thread nD τ))) (O : CT) (W : Waits sig Unit) :
    iprop(cellInv ER (rd m) (K (c, .inr (.inl k))) (sendCell c k) ∗ cellInv ER (rd m) (K (at_ c k, .inr (.inr k))) (recvCell (at_ c k) k)
        ∗ mineTok m c k ∗ slotPts (at_ c k) k fn
        ∗ owes (c : Thread nD τ) (O + recvOwe c k) W
        ∗ dutyTok ER (sendCell c k) 0 0 ∗ reached ER (sendCell c k) 0
        ∗ dutyTok ER (recvCell (at_ c k) k) 0 0 ∗ reached ER (recvCell (at_ c k) k) 0)
      ⊢ iprop(((cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma mineM (.remote (Dev.tc n : Thread nD τ) (slotM k) (.dma (sendSem k)) hsc) (.dma (recvSem k)) hsrc hdst hsem) kk) Q) := by
  subst hn
  unfold mineTok minePts slotPts
  exact Rounds.wp_send_pointsTo 𝒱₀ ER (rd m) (c : Thread nD τ) none (κ₁ := K (c, .inr (.inl k))) (κ₂ := K (at_ c k, .inr (.inr k)))
    (r₁ := 0) (r₂ := 0) (d₁ := 0) (d₂ := 0) (fd := fn)
    (by rw [duties_send]; exact Finset.mem_singleton_self _) (by rw [duties_recv]; exact Finset.mem_singleton_self _)
    () () N rfl (amount_send m c k 0) (amount_recv m (at_ c k) k 0) O rfl (W := W)
    (by rw [payload_send]; exact BI.Entails.refl _)
    (by rw [payload_recv]; refine BI.Entails.trans ?_ (filled_of_write m (at_ c k) k fn); rw [frm_at]; exact BI.Entails.refl _)

/-- The send of step `k`. -/
theorem send_step (k : Fin 15) (l : List (Fin 15)) :
    iprop(records m K ∗ (mineTok m c k ∗ (∃ f, slotPts (F := F) (at_ c k) k f) ∗ dutyTok ER (sendCell c k) 0 0 ∗ dutyTok ER (recvCell (at_ c k) k) 0 0)
        ∗ owe c (O₃ c + owing (k :: l) (recvOwe c)))
      ⊢ wp frame (wpE (defs₀ (F := F)) 𝒱₀ (c : Thread nD τ) none) Set.univ (sendStep c k)
          (fun _ => iprop(cred (tallyAt (sendCell c k) () N) ∗ owe (F := F) c (O₃ c + owing l (recvOwe c)))) := by
  unfold sendStep owe
  simp only [Prog.lift]
  iintro ⟨#HR, ⟨Hm, ⟨%f, Hs⟩, Ht, Ht'⟩, ⟨%W, HO⟩⟩
  ihave Hb := (records_at m K (c, .inr (.inl k))) $$ HR
  icases Hb with ⟨#HI, #Hr⟩
  ihave Hb := (records_at m K (at_ c k, .inr (.inr k))) $$ HR
  icases Hb with ⟨#HI', #Hr'⟩
  rw [show O₃ c + owing (k :: l) (recvOwe c) = (O₃ c + owing l (recvOwe c)) + recvOwe c k from (add_assoc _ _ _).symm]
  iapply (wp_send_to m K c k _ (dst_eq c k) f (O₃ c + owing l (recvOwe c)) W) $$ [Hm Hs HO Ht Ht']
  · isplitr; · iexact HI
    isplitr; · iexact HI'
    isplitl [Hm]; · iexact Hm
    isplitl [Hs]; · iexact Hs
    isplitl [HO]; · iexact HO
    isplitl [Ht]; · iexact Ht
    isplitr; · iexact Hr
    isplitl [Ht']; · iexact Ht'
    iexact Hr'
  iintro ⟨Hc, HO⟩
  rw [wp_ret]; imodintro
  isplitl [Hc]; · iexact Hc
  iexists W; iexact HO

/-- The wait for the send of slot `k`: the share of the weights it read comes back. -/
theorem sent_step (k : Fin 15) (l : List (Fin 15)) :
    iprop((records m K ∗ levAts L lv) ∗ (cred (tallyAt (sendCell c k) () N) ∗ atPos ER (sendCell c k) 0 ∅ 0) ∗ owe (F := F) c (O₃ c))
      ⊢ wp frame (wpE (defs₀ (F := F)) 𝒱₀ (c : Thread nD τ) none) Set.univ (sentStep k)
          (fun _ => iprop((atPos ER (sendCell c k) 1 ∅ 0 ∗ mineTok m c k) ∗ owe (F := F) c (O₃ c))) := by
  unfold sentStep owe
  simp only [Prog.lift]
  iintro ⟨⟨#HR, #Hlev⟩, ⟨Hc, Hat⟩, ⟨%W, HO⟩⟩
  ihave Hb := (records_at m K (c, .inr (.inl k))) $$ HR
  icases Hb with ⟨#HI, #Hr⟩
  iapply (Rounds.wp_wait_rest_token 𝒱₀ ER (rd m) (c : Thread nD τ) none (κ := K (c, .inr (.inl k)))
      (wpE_waitDma2_eq 𝒱₀ (c : Thread nD τ) none Set.univ) (Set.mem_univ _) () (O := O₃ c) (W := W) (R := 0) (m := 0) (T := ∅)
      (by rw [Nat.zero_add, expect_send])) $$ [Hc HO Hat]
  · isplitr; · iexact HI
    isplitl [Hc]; · iexact Hc
    isplitl [HO]; · iexact HO
    isplitr
    · iapply (mayWait_of c (.dma (sendSem k)) 0 (O₃ c) (by rw [kind_send]; exact le_refl _) (above_O₃ (by decide) c)); iexact Hlev
    iexact Hat
  iintro ⟨HO, Hat, -, Hpay⟩
  ihave Hp := (Entails.of_eq (rest_send m c k)) $$ Hpay
  rw [wp_ret]; imodintro
  isplitr [HO]
  · isplitl [Hat]; · iexact Hat
    iexact Hp
  iexists _; iexact HO

/-- A load of slab `j` of a filled slot reads the sender's slab. -/
theorem read_slab (k : Fin 15) (j : Fin 4) (f : (slotM k).view.ty.Contents (Elt F)) (X : (cc0_scratch1 : Ref sig .tc).ty.Contents (Elt F)) (h : (slotM k).view.read (Elt F) f = X) :
    (slotM k).view.readAt (Elt F) (Rect.unit (s := S4x256x512) ![(j : ℕ), 0, 0] S1x256x512.size (inbSlab j)).toLoadRect f = slab j X := by
  subst h; rfl

theorem hz2 : (![0, 0] : Fin 2 → Nat) = fun _ => 0 := funext fun a => by fin_cases a <;> rfl
theorem hz3 : (![0, 0, 0] : Fin 3 → Nat) = fun _ => 0 := funext fun a => by fin_cases a <;> rfl

theorem read_out (f : (cc0_stg4_0 : Ref sig .tc).ty.Contents (Elt F)) :
    (Memref.whole cc0_stg4_0).view.readAt (Elt F) (Rect.unit (s := S512x512) ![0, 0] S512x512.size inb_S512x512_S512x512_0_0).toLoadRect f = f :=
  Memref.readAt_unit_zero (Elt F) cc0_stg4_0 hz2 _ f
theorem write_out (f w : (cc0_stg4_0 : Ref sig .tc).ty.Contents (Elt F)) :
    ((Memref.whole cc0_stg4_0).access (Rect.unit (s := S512x512) ![0, 0] S512x512.size inb_S512x512_S512x512_0_0) : View sig .tc _ _ _).write (Elt F) f w Finset.univ = w :=
  Memref.write_access_unit_zero_univ (Elt F) cc0_stg4_0 hz2 _ f w

/-- The output staging buffer at contents `f`. -/
def outPts (f : (cc0_stg4_0 : Ref sig .tc).ty.Contents (Elt F)) : sProp 𝕄 := ((c : Thread nD τ).loc cc0_stg4_0) ↦{fullShare} f

/-- The output so far: folding in what is left gives the result. -/
def soFar (l : List (Fin 15)) : sProp 𝕄 := iprop(∃ f, ⌜l.foldl (addIn m c) f = outAt m c⌝ ∗ outPts (F := F) c f)

/-- The step the body runs at slot `k` of the receive phase. -/
abbrev recvRun (k : Fin 15) : PG F PUnit :=
  recvStep (Memref.whole cc0_stg4_0) (k0_pay3 (col0 m c)) (k0_pay4 (col1 m c)) (k0_pay8 (xin m c) (rwin m c) (col0 m c) (col1 m c))
    (k0_pay9 (xin m c) (rwin m c) (col0 m c) (col1 m c)) (k0_pay10 (xin m c)) c k

/-- The receive of slot `k`: the weights landed there are folded into the output. -/
theorem recv_step (k : Fin 15) (l : List (Fin 15)) :
    iprop((records m K ∗ levAts L lv) ∗ (cred (tallyAt (recvCell c k) () N) ∗ atPos ER (recvCell c k) 0 ∅ 0) ∗ (owe (F := F) c (O₃ c) ∗ soFar m c (k :: l)))
      ⊢ wp frame (wpE (defs₀ (F := F)) 𝒱₀ (c : Thread nD τ) none) Set.univ (recvRun m c k)
          (fun _ => iprop((atPos ER (recvCell c k) 1 ∅ 0 ∗ ∃ f, slotPts (F := F) c k f) ∗ (owe (F := F) c (O₃ c) ∗ soFar m c l))) := by
  unfold recvRun recvStep owe soFar
  simp only [Prog.lift, Prog.bind_op, Prog.bind_ret]
  iintro ⟨⟨#HR, #Hlev⟩, ⟨Hc, Hat⟩, ⟨%W, HO⟩, ⟨%f, %hf, Hout⟩⟩
  ihave Hb := (records_at m K (c, .inr (.inr k))) $$ HR
  icases Hb with ⟨#HI, #Hr⟩
  iapply (Rounds.wp_wait_rest_token 𝒱₀ ER (rd m) (c : Thread nD τ) none (κ := K (c, .inr (.inr k)))
      (wpE_waitDma2_eq 𝒱₀ (c : Thread nD τ) none Set.univ) (Set.mem_univ _) () (O := O₃ c) (W := W) (R := 0) (m := 0) (T := ∅)
      (by rw [Nat.zero_add, expect_recv])) $$ [Hc HO Hat]
  · isplitr; · iexact HI
    isplitl [Hc]; · iexact Hc
    isplitl [HO]; · iexact HO
    isplitr
    · iapply (mayWait_of c (.dma (recvSem k)) 2 (O₃ c) (by rw [kind_recv]; exact le_refl _) (above_O₃ (by decide) c)); iexact Hlev
    iexact Hat
  iintro ⟨HO, Hat, -, Hpay⟩
  ihave Hp := (Entails.of_eq (rest_recv m c k)) $$ Hpay
  unfold filled slotPts
  icases Hp with ⟨%g, %hg, Hs⟩
  unfold outPts
  iapply (wp_load 𝒱₀ (c : Thread nD τ) none Set.univ (m := Memref.whole cc0_stg4_0) (Finset.subset_univ _)) $$ Hout; iintro Hout
  rw [read_out]
  iapply (wp_load 𝒱₀ (c : Thread nD τ) none Set.univ (m := slotM k) ((slotM k).view.setOn_subset_set _)) $$ Hs; iintro Hs
  rw [read_slab k 0 g _ hg]
  iapply (wp_load 𝒱₀ (c : Thread nD τ) none Set.univ (m := slotM k) ((slotM k).view.setOn_subset_set _)) $$ Hs; iintro Hs
  rw [read_slab k 1 g _ hg]
  iapply (wp_load 𝒱₀ (c : Thread nD τ) none Set.univ (m := slotM k) ((slotM k).view.setOn_subset_set _)) $$ Hs; iintro Hs
  rw [read_slab k 2 g _ hg]
  iapply (wp_load 𝒱₀ (c : Thread nD τ) none Set.univ (m := slotM k) ((slotM k).view.setOn_subset_set _)) $$ Hs; iintro Hs
  rw [read_slab k 3 g _ hg]
  iapply (wp_load 𝒱₀ (c : Thread nD τ) none Set.univ (m := Memref.whole cc0_stg4_0) (Finset.subset_univ _)) $$ Hout; iintro Hout
  iapply (wp_store 𝒱₀ (c : Thread nD τ) none Set.univ (m := Memref.whole cc0_stg4_0) (r := Rect.unit (s := S512x512) ![0, 0] S512x512.size inb_S512x512_S512x512_0_0) (Mk := Finset.univ) (Finset.subset_univ _)) $$ Hout; iintro Hout
  rw [write_out, wp_ret]; imodintro
  isplitl [Hat Hs]
  · isplitl [Hat]; · iexact Hat
    iexists g; iexact Hs
  isplitl [HO]; · iexists _; iexact HO
  iexists _
  isplitr
  · ipureintro; exact hf
  iexact Hout

end Steps

end Cert.Moe
end
-- ==== Proof.Body.lean ====
/-
# The body on one device

What a device's body starts from and leaves (`Φ₀`, `Φ₁`), the pipeline's proof data, and the body run phase by phase.
-/
module

public import proofs.«01_k».proof.Proof.Steps

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The landing buffer by slots -/

theorem slot_set (k : Fin 15) : (slotM k).view.set = (Rect.unit (s := S15x4x256x512) ![(k : ℕ), 0, 0, 0] S1x4x256x512.size (inbSlot k)).set :=
  (View.set_reshape _ _).trans (View.set_slice_whole _ _)

theorem slot_disjoint (k k' : Fin 15) (h : k ≠ k') : Disjoint (slotM k).view.set (slotM k').view.set := by
  rw [slot_set, slot_set]
  exact Ring.lead_disjoint (s := S15x4x256x512) (0 : Fin 4) 1 (fun j : Fin 15 => (![(j : ℕ), 0, 0, 0] : Fin 4 → ℕ)) S1x4x256x512.size inbSlot
    (fun j => by simp) rfl k k' h

theorem slot_cover : Finset.univ.biUnion (β := S15x4x256x512.Idx) (fun k : Fin 15 => (slotM k).view.set) = Finset.univ := by
  refine Eq.trans (congrArg (Finset.univ.biUnion (β := S15x4x256x512.Idx)) (funext fun k : Fin 15 => slot_set k)) ?_
  exact Ring.lead_cover (s := S15x4x256x512) (0 : Fin 4) 1 (fun j : Fin 15 => (![(j : ℕ), 0, 0, 0] : Fin 4 → ℕ)) S1x4x256x512.size inbSlot
    (fun j => by simp) (fun j a ha => by revert j a ha; decide) rfl (fun a ha => by revert a ha; decide) rfl

theorem slots_some (c : Dev nD) (f : Buf (Elt F) ((c : Thread nD τ).loc cc0_scratch0)) :
    (bigSep Finset.univ fun k => slotPts (F := F) c k f) ⊢ bigSep Finset.univ fun k => iprop(∃ f, slotPts (F := F) c k f) :=
  bigSep_mono fun k _ => show slotPts (F := F) c k f ⊢ iprop(∃ f, slotPts (F := F) c k f) from by iintro H; iexists f; iexact H

/-- The landing buffer held whole is held slot by slot. -/
theorem slots_split (c : Dev nD) :
    (iprop(∃ f : Buf (Elt F) ((c : Thread nD τ).loc cc0_scratch0), ((c : Thread nD τ).loc cc0_scratch0) ↦{fullShare} f) : sProp 𝕄)
      ⊢ bigSep Finset.univ fun k => iprop(∃ f, slotPts (F := F) c k f) := by
  iintro ⟨%f, H⟩
  ihave H' := (Entails.of_eq (Ring.pointsTo_blocks (Ix := Unit) (Name := ℕ) (U := UU) (Lvl := ℕ) (ℓ := (c : Thread nD τ).loc cc0_scratch0) (fun k : Fin 15 => (slotM k).view.set) slot_disjoint slot_cover f)) $$ H
  iapply (slots_some (F := F) c f)
  unfold slotPts
  iexact H'

/-- The slots at any contents make the landing buffer at some. -/
theorem slots_join (c : Dev nD) (f₀ : Buf (Elt F) ((c : Thread nD τ).loc cc0_scratch0)) :
    (bigSep Finset.univ fun k => iprop(∃ f, slotPts (F := F) c k f))
      ⊢ (iprop(∃ f : Buf (Elt F) ((c : Thread nD τ).loc cc0_scratch0), ((c : Thread nD τ).loc cc0_scratch0) ↦{fullShare} f) : sProp 𝕄) :=
  Ring.pointsTo_blocks_join_exists (Ix := Unit) (Name := ℕ) (U := UU) (Lvl := ℕ) (ℓ := (c : Thread nD τ).loc cc0_scratch0) (fun k : Fin 15 => (slotM k).view.set) slot_disjoint slot_cover f₀

/-- A family over the steps is the family over the steps turned round. -/
theorem turned (Φ : Fin 15 → sProp 𝕄) : bigSep Finset.univ Φ = bigSep Finset.univ fun k => Φ (rev k) := bigSep_univ_equiv turn Φ

/-! ## What the body starts from and leaves -/

/-- The tokens of the duties device `c` pays. -/
def payToks (c : Dev nD) : sProp 𝕄 :=
  iprop((bigSep Finset.univ fun k => dutyTok ER (barCell (at_ c k)) 0 k) ∗ (bigSep Finset.univ fun k => dutyTok ER (exitCell (at_ c k)) 0 k)
    ∗ (bigSep Finset.univ fun k => dutyTok ER (sendCell c k) 0 (0 : Fin 15)) ∗ (bigSep Finset.univ fun k => dutyTok ER (recvCell (at_ c k) k) 0 (0 : Fin 15)))

/-- Its positions at round `r` of its own cells. -/
def posns (c : Dev nD) (r : ℕ) : sProp 𝕄 :=
  iprop(atPos ER (barCell c) r (∅ : Finset (Fin 15)) 0 ∗ atPos ER (exitCell c) r (∅ : Finset (Fin 15)) 0
    ∗ (bigSep Finset.univ fun k => atPos ER (sendCell c k) r (∅ : Finset (Fin 15)) 0) ∗ (bigSep Finset.univ fun k => atPos ER (recvCell c k) r (∅ : Finset (Fin 15)) 0))

def ghost (K : Dev nD × CK → ℕ) (c : Dev nD) : sProp 𝕄 := iprop(records m K ∗ posns c 0 ∗ payToks c)

/-- The credits device `c`'s waits take. -/
def credits (c : Dev nD) : sProp 𝕄 :=
  iprop(cred (tallyAt (barCell c) () 15) ∗ cred (tallyAt (exitCell c) () 15) ∗ bigSep Finset.univ fun k => cred (tallyAt (recvCell c k) () N))

/-- What the launch gives device `c`'s body. -/
def start (c : Dev nD) : sProp 𝕄 := iprop((∃ K, ghost m K c) ∗ credits c ∗ levAts L lv)

/-- A buffer held whole at some contents. -/
abbrev some0 (c : Dev nD) : sProp 𝕄 := iprop(∃ f : Buf (Elt F) ((c : Thread nD τ).loc cc0_scratch0), ((c : Thread nD τ).loc cc0_scratch0) ↦{fullShare} f)
abbrev some1 (c : Dev nD) : sProp 𝕄 := iprop(∃ f : Buf (Elt F) ((c : Thread nD τ).loc cc0_scratch1), ((c : Thread nD τ).loc cc0_scratch1) ↦{fullShare} f)

/-- Every counter of the exchange on device `c` at zero. -/
def zeros (c : Dev nD) : sProp 𝕄 :=
  iprop(semVal (barCell c) 0 ∗ semVal (exitCell c) 0 ∗ (bigSep Finset.univ fun k => semVal (sendCell c k) 0) ∗ (bigSep Finset.univ fun k => semVal (recvCell c k) 0))

def Φ₀ (c : Dev nD) : sProp 𝕄 := iprop(start m c ∗ some0 c ∗ some1 c)
def Φ₁ (c : Dev nD) : sProp 𝕄 := iprop(zeros (F := F) c ∗ some0 c ∗ some1 c)

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xin m c
    | ⟨1, _⟩ => rwin m c
    | ⟨2, _⟩ => ixin m c
    | ⟨3, _⟩ => ew m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev t₀ : Fin cfg0.N := t0_0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Closing the cells: the counters at zero. -/
theorem close_all (K : Dev nD × CK → ℕ) (c : Dev nD) :
    iprop(records m K ∗ posns c 1) ⊢ (|={Set.univ}=> zeros (F := F) c : sProp 𝕄) := by
  have hfam (g : Fin 15 → CK) : iprop(records m K ∗ bigSep Finset.univ fun k => atPos ER (kcell (c, g k)) 1 (∅ : Finset (Fin 15)) 0)
      ⊢ (|={Set.univ}=> bigSep Finset.univ fun k => semVal (kcell (c, g k)) 0 : sProp 𝕄) := by
    refine BI.Entails.trans (BI.bigSep_with_persistent (R := records m K) (Ψ := fun k => iprop(cellInv ER (rd m) (K (c, g k)) (kcell (c, g k)) ∗ atPos ER (kcell (c, g k)) 1 (∅ : Finset (Fin 15)) 0)) fun k _ => ?_)
      (cells_close ER (rd m) Finset.univ (fun k => kcell (c, g k)) (fun k => K (c, g k)) (fun _ _ => Set.mem_univ _) (fun _ _ h => h) (fun _ => 1) (fun k _ => duties_later m _))
    iintro ⟨HR, Hat⟩
    ihave Hb := (records_at m K (c, g k)) $$ HR
    icases Hb with ⟨HI, -⟩
    isplitl [HI]; · iexact HI
    iexact Hat
  unfold posns zeros
  iintro ⟨#HR, Hb, He, Hs, Hv⟩
  ihave HIb := (records_at m K (c, .inl false)) $$ HR
  icases HIb with ⟨#HIb, -⟩
  ihave HIe := (records_at m K (c, .inl true)) $$ HR
  icases HIe with ⟨#HIe, -⟩
  imod (Rounds.cell_close ER (rd m) (Set.mem_univ (K (c, .inl false))) (fun h => h) (R := 1) (duties_later m (barCell c))) $$ [Hb] with HzB
  · isplitr; · iexact HIb
    iexact Hb
  imod (Rounds.cell_close ER (rd m) (Set.mem_univ (K (c, .inl true))) (fun h => h) (R := 1) (duties_later m (exitCell c))) $$ [He] with HzE
  · isplitr; · iexact HIe
    iexact He
  imod (hfam fun k => .inr (.inl k)) $$ [Hs] with HzS
  · isplitr; · iexact HR
    iexact Hs
  imod (hfam fun k => .inr (.inr k)) $$ [Hv] with HzV
  · isplitr; · iexact HR
    iexact Hv
  imodintro
  isplitl [HzB]; · iexact HzB
  isplitl [HzE]; · iexact HzE
  isplitl [HzS]; · iexact HzS
  iexact HzV

section Body

variable (K : Dev nD × CK → ℕ)

theorem read_x (f : (cc0_stg0_0 : Ref sig .tc).ty.Contents (Elt F)) :
    (Memref.whole cc0_stg0_0).view.readAt (Elt F) (Rect.unit (s := S512x256) ![0, 0] S512x256.size inb_S512x256_S512x256_0_0).toLoadRect f = f :=
  Memref.readAt_unit_zero (Elt F) cc0_stg0_0 hz2 _ f
theorem read_rw (f : (cc0_stg1_0 : Ref sig .tc).ty.Contents (Elt F)) :
    (Memref.whole cc0_stg1_0).view.readAt (Elt F) (Rect.unit (s := S256x64) ![0, 0] S256x64.size inb_S256x64_S256x64_0_0).toLoadRect f = f :=
  Memref.readAt_unit_zero (Elt F) cc0_stg1_0 hz2 _ f
theorem read_ew (f : (cc0_stg3_0 : Ref sig .tc).ty.Contents (Elt F)) :
    (Memref.whole cc0_stg3_0).view.readAt (Elt F) (Rect.unit (s := S4x256x512) ![0, 0, 0] S4x256x512.size inb_S4x256x512_S4x256x512_0_0_0).toLoadRect f = f :=
  Memref.readAt_unit_zero (Elt F) cc0_stg3_0 hz3 _ f
theorem write_mine (f w : (cc0_scratch1 : Ref sig .tc).ty.Contents (Elt F)) :
    ((Memref.whole cc0_scratch1).access (Rect.unit (s := S4x256x512) ![0, 0, 0] S4x256x512.size inb_S4x256x512_S4x256x512_0_0_0) : View sig .tc _ _ _).write (Elt F) f w Finset.univ = w :=
  Memref.write_access_unit_zero_univ (Elt F) cc0_scratch1 hz3 _ f w
theorem read_mine (j : Fin 4) (X : (cc0_scratch1 : Ref sig .tc).ty.Contents (Elt F)) :
    mineM.view.readAt (Elt F) (Rect.unit (s := S4x256x512) ![(j : ℕ), 0, 0] S1x256x512.size (inbSlab j)).toLoadRect X = slab j X := rfl

theorem minePts_eq (c : Dev nD) (q : PosShare TreeShare) : minePts m c q = (((c : Thread nD τ).loc cc0_scratch1) ↦{q} mybf m c : sProp 𝕄) := by
  unfold minePts; rw [View.set_whole]

/-- The weights held whole are a remainder and a share for each transfer. -/
theorem mine_split (c : Dev nD) : minePts m c fullShare ⊣⊢ iprop(minePts m c (Transfers.shareDrop fullShare 15) ∗ bigSep Finset.univ fun k => mineTok m c k) := by
  unfold mineTok minePts
  exact ⟨Transfers.pointsTo_toks_split fullShare 15, Transfers.pointsTo_toks_join fullShare 15⟩

def bodyPre (c : Dev nD) : sProp 𝕄 :=
  iprop((ghost m K c ∗ credits c ∗ levAts L lv ∗ some0 c ∗ some1 c)
    ∗ (dats m 0 c).owesAt () t₀.castSucc
    ∗ (∃ d, stg c cc0_stg0_0 ((dats m 0 c).before (0 : Fin 5) t₀ d))
    ∗ (∃ d, stg c cc0_stg1_0 ((dats m 0 c).before (1 : Fin 5) t₀ d))
    ∗ (∃ d, stg c cc0_stg2_0 ((dats m 0 c).before (2 : Fin 5) t₀ d))
    ∗ (∃ d, stg c cc0_stg3_0 ((dats m 0 c).before (3 : Fin 5) t₀ d))
    ∗ (∃ d, stg c cc0_stg4_0 ((dats m 0 c).before (4 : Fin 5) t₀ d)))

def bodyPost (c : Dev nD) : sProp 𝕄 :=
  iprop(Φ₁ c ∗ (dats m 0 c).owesAt () t₀.succ ∗ stg c cc0_stg0_0 (xin m c) ∗ stg c cc0_stg1_0 (rwin m c) ∗ stg c cc0_stg2_0 (ixin m c)
    ∗ stg c cc0_stg3_0 (ew m c) ∗ stg c cc0_stg4_0 (outAt m c))

set_option maxHeartbeats 1600000 in
/-- The body, run phase by phase. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (nice (Memref.whole cc0_stg0_0) (Memref.whole cc0_stg1_0) (Memref.whole cc0_stg2_0) (Memref.whole cc0_stg3_0) (Memref.whole cc0_stg4_0)) Kt := by
  unfold nice
  simp only [semWaitWord, Prog.lift, Prog.bind_op, Prog.bind_ret, Prog.pure_eq_ret, wp_deviceId]
  unfold bodyPre ghost posns payToks credits
  iintro ⟨⟨⟨⟨#HR, ⟨HaB, HaE, HaS, HaV⟩, ⟨HtB, HtE, HtS, HtV⟩⟩, ⟨HcB, HcE, HcV⟩, #Hlev, H0, ⟨%f1, H1⟩⟩,
    Ho, ⟨%d0, %g0, %hg0, Hx⟩, ⟨%d1, %g1, %hg1, Hrw⟩, ⟨%d2, %g2, %hg2, Hix⟩, ⟨%d3, %g3, %hg3, Hew⟩, ⟨%d4, %g4, %hg4, Hout⟩⟩, Hk⟩
  have hx : g0 = xin m c := by rw [hg0]; unfold Dat.before; rw [if_pos (fetch0_0 t₀)]; rfl
  have hrw : g1 = rwin m c := by rw [hg1]; unfold Dat.before; rw [if_pos (fetch0_1 t₀)]; rfl
  have hix : g2 = ixin m c := by rw [hg2]; unfold Dat.before; rw [if_pos (fetch0_2 t₀)]; rfl
  have hew : g3 = ew m c := by rw [hg3]; unfold Dat.before; rw [if_pos (fetch0_3 t₀)]; rfl
  subst hx hrw hix hew
  unfold Dat.owesAt Pipeline.owesWithin
  icases Ho with ⟨%W, %hW, HO⟩
  rw [show (dats m 0 c).owed t₀.castSucc = O₀ c from rfl]
  ihave HO := (show owes (c : Thread nD τ) (O₀ c) W ⊢ owe (F := F) c (O₀ c) from by unfold owe; iintro H; iexists W; iexact H) $$ HO
  -- the weights, narrowed, are stored
  iapply (wp_load 𝒱₀ (c : Thread nD τ) none Set.univ (m := Memref.whole cc0_stg3_0) (Finset.subset_univ _)) $$ Hew; iintro Hew
  rw [read_ew]
  iapply (wp_load 𝒱₀ (c : Thread nD τ) none Set.univ (m := mineM) (Finset.subset_univ _)) $$ H1; iintro H1
  iapply (wp_store 𝒱₀ (c : Thread nD τ) none Set.univ (m := mineM) (r := Rect.unit (s := S4x256x512) ![0, 0, 0] S4x256x512.size inb_S4x256x512_S4x256x512_0_0_0) (Mk := Finset.univ) (Finset.subset_univ _)) $$ H1; iintro H1
  rw [write_mine]
  ihave H1 := (show (((mineM.access (Rect.unit (s := S4x256x512) ![0, 0, 0] S4x256x512.size inb_S4x256x512_S4x256x512_0_0_0)).loc (c : Thread nD τ)) ↦{fullShare} k0_pay1 (ew m c) : sProp 𝕄)
    ⊢ minePts m c fullShare from Entails.of_eq (minePts_eq m c fullShare).symm) $$ H1
  ihave H1 := (mine_split m c).1 $$ H1
  icases H1 with ⟨Hdrop, Htoks⟩
  -- the entry signals
  ihave H0 := (slots_split (F := F) c) $$ H0
  ihave H0 := (Entails.of_eq (turned (F := F) fun k => iprop(∃ f, slotPts (F := F) c k f))) $$ H0
  iapply (wp_phase c (records m K) (sigStep c) (fun k => iprop(dutyTok ER (barCell (at_ c k)) 0 k ∗ ∃ f, slotPts (F := F) c (rev k) f)) (fun _ => iprop(emp))
    (fun l => owe (F := F) c (O₂ c + owing l (barOwe c))) (sig_step m K c)) $$ [HtB H0 HO]
  · isplitr; · iexact HR
    isplitr [HO]
    · rw [bigSep_sep']
      isplitl [HtB]; · iexact HtB
      iexact H0
    iexact HO
  iintro ⟨-, HO⟩
  ihave HO := (show owe (F := F) c (O₂ c + owing [] (barOwe c)) ⊢ owe (F := F) c (O₂ c) from Entails.of_eq (congrArg (owe c) (add_zero (O₂ c)))) $$ HO
  unfold owe
  icases HO with ⟨%W1, HO⟩
  -- the barrier wait
  iapply (Rounds.wp_wait_rest_token 𝒱₀ ER (rd m) (c : Thread nD τ) none (κ := K (c, .inl false))
      (wpE_semWait_eq 𝒱₀ (c : Thread nD τ) none Set.univ) (Set.mem_univ _) () (O := O₂ c) (W := W1) (R := 0) (m := 0) (T := ∅)
      (by rw [expect_bar]; decide)) $$ [HcB HO HaB]
  · isplitr
    · ihave Hb := (records_at m K (c, .inl false)) $$ HR
      icases Hb with ⟨HI, -⟩
      iexact HI
    isplitl [HcB]; · iexact HcB
    isplitl [HO]; · iexact HO
    isplitr
    · iapply (mayWait_of c (.reg barSem) 1 (O₂ c) (by rw [kind_bar]; exact le_refl _) (above_O₂ (by decide) c)); iexact Hlev
    iexact HaB
  iintro ⟨HO, HaB, -, Hpay⟩
  ihave Hp := (Entails.of_eq ((rest_bar m c).trans (turned (F := F) _))) $$ Hpay
  ihave Hp := (Entails.of_eq (bigSep_congr (s := Finset.univ) (fun (k : Fin 15) _ => show barPay (F := F) c (rev k) = iprop(∃ f, slotPts (F := F) (at_ c k) k f) from by
    unfold barPay; rw [frm_rev, rev_rev]))) $$ Hp
  -- the sends
  iapply (wp_phase c (records m K) (sendStep c)
    (fun k => iprop(mineTok m c k ∗ (∃ f, slotPts (F := F) (at_ c k) k f) ∗ dutyTok ER (sendCell c k) 0 0 ∗ dutyTok ER (recvCell (at_ c k) k) 0 0))
    (fun k => cred (tallyAt (sendCell c k) () N))
    (fun l => owe (F := F) c (O₃ c + owing l (recvOwe c))) (send_step m K c)) $$ [Htoks Hp HtS HtV HO]
  · isplitr; · iexact HR
    isplitr [HO]
    · rw [bigSep_sep', bigSep_sep', bigSep_sep']
      isplitl [Htoks]; · iexact Htoks
      isplitl [Hp]; · iexact Hp
      isplitl [HtS]; · iexact HtS
      iexact HtV
    iapply (show owes (c : Thread nD τ) (O₂ c) (insert (SemLoc.reg barSem, ()) W1) ⊢ owe (F := F) c (O₃ c + owing slots (recvOwe c)) from by unfold owe; iintro H; iexists _; iexact H); iexact HO
  iintro ⟨HcS, HO⟩
  ihave HO := (show owe (F := F) c (O₃ c + owing [] (recvOwe c)) ⊢ owe (F := F) c (O₃ c) from Entails.of_eq (congrArg (owe c) (add_zero (O₃ c)))) $$ HO
  -- the loads and the device's own experts
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg1_0) (Finset.subset_univ _)) $$ Hrw; iintro Hrw
  iapply (wp_load 𝒱₀ (c : Thread nD τ) none Set.univ (m := Memref.whole cc0_stg2_0) (Finset.subset_univ _)) $$ Hix; iintro Hix
  iapply (wp_load 𝒱₀ (c : Thread nD τ) none Set.univ (m := Memref.whole cc0_stg2_0) (Finset.subset_univ _)) $$ Hix; iintro Hix
  iapply (wp_load 𝒱₀ (c : Thread nD τ) none Set.univ (m := Memref.whole cc0_stg0_0) (Finset.subset_univ _)) $$ Hx; iintro Hx
  rw [read_x, read_rw]
  unfold minePts
  iapply (wp_load 𝒱₀ (c : Thread nD τ) none Set.univ (m := mineM) (mineM.view.setOn_subset_set _)) $$ Hdrop; iintro Hdrop
  rw [read_mine 0]
  iapply (wp_load 𝒱₀ (c : Thread nD τ) none Set.univ (m := mineM) (mineM.view.setOn_subset_set _)) $$ Hdrop; iintro Hdrop
  rw [read_mine 1]
  iapply (wp_load 𝒱₀ (c : Thread nD τ) none Set.univ (m := mineM) (mineM.view.setOn_subset_set _)) $$ Hdrop; iintro Hdrop
  rw [read_mine 2]
  iapply (wp_load 𝒱₀ (c : Thread nD τ) none Set.univ (m := mineM) (mineM.view.setOn_subset_set _)) $$ Hdrop; iintro Hdrop
  rw [read_mine 3]
  iapply (wp_load 𝒱₀ (c : Thread nD τ) none Set.univ (m := Memref.whole cc0_stg4_0) (Finset.subset_univ _)) $$ Hout; iintro Hout
  iapply (wp_store 𝒱₀ (c : Thread nD τ) none Set.univ (m := Memref.whole cc0_stg4_0) (r := Rect.unit (s := S512x512) ![0, 0] S512x512.size inb_S512x512_S512x512_0_0) (Mk := Finset.univ) (Finset.subset_univ _)) $$ Hout; iintro Hout
  rw [write_out]
  -- the receives
  iapply (wp_phase c iprop(records m K ∗ levAts L lv) (recvRun m c)
    (fun k => iprop(cred (tallyAt (recvCell c k) () N) ∗ atPos ER (recvCell c k) 0 ∅ 0))
    (fun k => iprop(atPos ER (recvCell c k) 1 ∅ 0 ∗ ∃ f, slotPts (F := F) c k f))
    (fun l => iprop(owe (F := F) c (O₃ c) ∗ soFar m c l)) (recv_step m K c)) $$ [HcV HaV HO Hout]
  · isplitr
    · isplitr; · iexact HR
      iexact Hlev
    isplitl [HcV HaV]
    · rw [bigSep_sep']
      isplitl [HcV]; · iexact HcV
      iexact HaV
    isplitl [HO]; · iexact HO
    unfold soFar outPts
    iexists _
    isplitr; rotate_left
    · iexact Hout
    ipureintro; rfl
  iintro ⟨Hd, HO, Hsf⟩
  ihave Hd := (Entails.of_eq (bigSep_sep' Finset.univ (fun k => atPos ER (recvCell c k) 1 (∅ : Finset (Fin 15)) 0) (fun k => iprop(∃ f, slotPts (F := F) c k f)))) $$ Hd
  icases Hd with ⟨HaV, H0⟩
  unfold soFar outPts
  icases Hsf with ⟨%fo, %hfo, Hout⟩
  -- the sends have read
  iapply (wp_phase c iprop(records m K ∗ levAts L lv) sentStep
    (fun k => iprop(cred (tallyAt (sendCell c k) () N) ∗ atPos ER (sendCell c k) 0 ∅ 0))
    (fun k => iprop(atPos ER (sendCell c k) 1 ∅ 0 ∗ mineTok m c k))
    (fun l => owe (F := F) c (O₃ c)) (sent_step m K c)) $$ [HcS HaS HO]
  · isplitr
    · isplitr; · iexact HR
      iexact Hlev
    isplitl [HcS HaS]
    · rw [bigSep_sep']
      isplitl [HcS]; · iexact HcS
      iexact HaS
    iexact HO
  iintro ⟨Hd, HO⟩
  ihave Hd := (Entails.of_eq (bigSep_sep' Finset.univ (fun k => atPos ER (sendCell c k) 1 (∅ : Finset (Fin 15)) 0) (fun k => mineTok m c k))) $$ Hd
  icases Hd with ⟨HaS, Htoks⟩
  -- the exit signals and the exit wait
  iapply (wp_phase c (records m K) (exitStep c) (fun k => dutyTok ER (exitCell (at_ c k)) 0 k) (fun _ => iprop(emp))
    (fun l => owe (F := F) c (owing l (exitOwe c))) (exit_step m K c)) $$ [HtE HO]
  · isplitr; · iexact HR
    isplitl [HtE]; · iexact HtE
    iexact HO
  iintro ⟨-, HO⟩
  unfold owe
  icases HO with ⟨%W2, HO⟩
  iapply (Rounds.wp_wait_rest_token 𝒱₀ ER (rd m) (c : Thread nD τ) none (κ := K (c, .inl true))
      (wpE_semWait_eq 𝒱₀ (c : Thread nD τ) none Set.univ) (Set.mem_univ _) () (O := 0) (W := W2) (R := 0) (m := 0) (T := ∅)
      (by rw [expect_exit]; decide)) $$ [HcE HO HaE]
  · isplitr
    · ihave Hb := (records_at m K (c, .inl true)) $$ HR
      icases Hb with ⟨HI, -⟩
      iexact HI
    isplitl [HcE]; · iexact HcE
    isplitl [HO]; · iexact HO
    isplitr; · rw [MayWait_zero]; iempintro
    iexact HaE
  iintro ⟨HO, HaE, -, -⟩
  imod (close_all m K c) $$ [HaB HaE HaS HaV] with Hz
  · isplitr; · iexact HR
    unfold posns
    isplitl [HaB]; · iexact HaB
    isplitl [HaE]; · iexact HaE
    isplitl [HaS]; · iexact HaS
    iexact HaV
  rw [wp_ret]; imodintro
  iapply Hk
  unfold bodyPost Φ₁ Dat.owesAt Pipeline.owesWithin
  rw [show (dats m 0 c).owed t₀.succ = 0 from rfl]
  isplitl [Hz H0 Hdrop Htoks]
  · isplitl [Hz]; · iexact Hz
    isplitl [H0]
    · iapply (slots_join (F := F) c (fun _ => (Classical.arbitrary _))); iexact H0
    iexists (mybf m c)
    rw [← minePts_eq]
    iapply (mine_split m c).2
    unfold minePts
    isplitl [Hdrop]; · iexact Hdrop
    iexact Htoks
  isplitl [HO]
  · iexists _
    isplitr; rotate_left
    · iexact HO
    ipureintro; exact fun _ _ => Or.inl trivial
  isplitl [Hx]
  · iexists _; isplitr; · (ipureintro; rfl)
    iexact Hx
  isplitl [Hrw]
  · iexists _; isplitr; · (ipureintro; rfl)
    iexact Hrw
  isplitl [Hix]
  · iexists _; isplitr; · (ipureintro; rfl)
    iexact Hix
  isplitl [Hew]
  · iexists _; isplitr; · (ipureintro; rfl)
    iexact Hew
  iexists fo; isplitr; · (ipureintro; exact hfo)
  iexact Hout

end Body

end Cert.Moe
end
-- ==== Proof.Launch.lean ====
/-
# The launch

The exchange's ghost state is minted, dealt round the ring, and every device's body is run: from any memory every run
of the program ends, each device's result array at the computed contents, its arguments unchanged, every counter at zero.
-/
module

public import proofs.«01_k».proof.Proof.Body
public import Idealize.ShloMosaic.Lib.Pipeline.CollectiveSegs

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## The body obligation -/

def bodyPre' (c : Dev nD) : sProp 𝕄 :=
  iprop(Φ₀ m c ∗ (dats m 0 c).owesAt () t₀.castSucc
    ∗ (∃ d, stg c cc0_stg0_0 ((dats m 0 c).before (0 : Fin 5) t₀ d))
    ∗ (∃ d, stg c cc0_stg1_0 ((dats m 0 c).before (1 : Fin 5) t₀ d))
    ∗ (∃ d, stg c cc0_stg2_0 ((dats m 0 c).before (2 : Fin 5) t₀ d))
    ∗ (∃ d, stg c cc0_stg3_0 ((dats m 0 c).before (3 : Fin 5) t₀ d))
    ∗ (∃ d, stg c cc0_stg4_0 ((dats m 0 c).before (4 : Fin 5) t₀ d)))

set_option maxRecDepth 8000 in
/-- The library's body obligation on core `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_scratch0) (Memref.isWhole_whole _) (Memref.whole cc0_scratch1) (Memref.isWhole_whole _) cc0_scratch2 cc0_scratch3 cc0_scoped0) (fun _ => bodyPost m c)
  rw [cc0_body_eq_nice]
  unfold bodyPre' Φ₀ start
  iintro ⟨⟨⟨⟨%K, Hg⟩, Hc, Hl⟩, H0, H1⟩, Ho, Hst⟩
  iapply (sound_body m K c fun _ => bodyPost m c)
  unfold bodyPre
  isplitr []
  · isplitl [Hg Hc Hl H0 H1]
    · isplitl [Hg]; · iexact Hg
      isplitl [Hc]; · iexact Hc
      isplitl [Hl]; · iexact Hl
      isplitl [H0]; · iexact H0
      iexact H1
    isplitl [Ho]; · iexact Ho
    iexact Hst
  · iintro H; iexact H

/-! ## Minting -/

/-- The names of the body's own semaphores: the exit and the transfers'. -/
abbrev OS : Type := Unit ⊕ (Fin 15 ⊕ Fin 15)
def osem : OS → SemLoc sig
  | .inl _ => .reg exitSem
  | .inr x => csem (.inr x)

theorem ownSemFacts : Pipeline.OwnSemFacts cfg0.spec osem := by decide +kernel

theorem share_eq (c : Dev nD) (w : Fin cfg0.W) : (dats m 0 c).share w = fullShare := by unfold Dat.share; split <;> rfl

theorem kcell_inj : Function.Injective kcell := by
  rintro ⟨c, k⟩ ⟨c', k'⟩ h
  have h1 : c = c' := congrArg (fun g : GSem nD τ sig => g.1.1) h
  subst h1
  exact congrArg (Prod.mk c) (csem_inj (congrArg Prod.snd h))

def cellsX : Finset (GSem nD τ sig) := Finset.univ.map ⟨kcell, kcell_inj⟩

/-- The names of a device's own duty tokens: barrier, exit, send, receive. -/
abbrev TI : Type := (Fin 15 ⊕ Fin 15) ⊕ (Fin 15 ⊕ Fin 15)

def tsem : TI → SemLoc sig × Fin 15
  | .inl (.inl k) => (.reg barSem, k)
  | .inl (.inr k) => (.reg exitSem, k)
  | .inr (.inl k) => (.dma (sendSem k), 0)
  | .inr (.inr k) => (.dma (recvSem k), 0)

theorem tsem_inj : Function.Injective tsem := by decide +kernel

def tokOf (cj : Dev nD × TI) : GSem nD τ sig × ℕ × Fin 15 := (((cj.1 : Thread nD τ), (tsem cj.2).1), 0, (tsem cj.2).2)

theorem tokOf_inj : Function.Injective tokOf := by
  rintro ⟨c, j⟩ ⟨c', j'⟩ h
  have h1 : c = c' := congrArg (fun x : GSem nD τ sig × ℕ × Fin 15 => x.1.1.1) h
  subst h1
  exact congrArg (Prod.mk c) (tsem_inj (Prod.ext (congrArg (fun x : GSem nD τ sig × ℕ × Fin 15 => x.1.2) h) (congrArg (fun x : GSem nD τ sig × ℕ × Fin 15 => x.2.2) h)))

def toksX : Finset (GSem nD τ sig × ℕ × Fin 15) := Finset.univ.map ⟨tokOf, tokOf_inj⟩

def u₀ : UU :=
  (initOf (Pipeline.cells cfgs cellOf_inj) (Pipeline.launchToks cfgs cellOf_inj), initOf cellsX toksX)

/-- The duty tokens of device `c`'s own cells. -/
def toks (c : Dev nD) : sProp 𝕄 :=
  iprop(((bigSep Finset.univ fun k => dutyTok ER (barCell c) 0 k) ∗ (bigSep Finset.univ fun k => dutyTok ER (exitCell c) 0 k))
    ∗ (bigSep Finset.univ fun k => dutyTok ER (sendCell c k) 0 (0 : Fin 15)) ∗ (bigSep Finset.univ fun k => dutyTok ER (recvCell c k) 0 (0 : Fin 15)))

def G (c : Dev nD) : sProp 𝕄 :=
  iprop((bigSep Finset.univ fun k : CK => roundState ER (rd m) (kcell (c, k)) 0)
    ∗ (bigSep Finset.univ fun k : CK => iprop(atPos ER (kcell (c, k)) 0 ∅ 0 ∗ reached ER (kcell (c, k)) 0)) ∗ toks c)

def G' (c : Dev nD) : sProp 𝕄 := iprop(∃ K, ghost m K c)

theorem bigSep_bool (Φ : Bool → sProp 𝕄) : bigSep Finset.univ Φ = iprop(Φ false ∗ Φ true) := by
  rw [bigSep_univ_eq_bigSepL [false, true] (by decide) (by decide), bigSepL_cons_cons, bigSepL_singleton]; rfl

theorem bigSep_CK (Φ : CK → sProp 𝕄) :
    bigSep Finset.univ Φ = iprop((Φ (.inl false) ∗ Φ (.inl true)) ∗ (bigSep Finset.univ fun k => Φ (.inr (.inl k))) ∗ (bigSep Finset.univ fun k => Φ (.inr (.inr k)))) := by
  rw [bigSep_univ_sum, bigSep_univ_sum, bigSep_bool]; rfl

theorem fund_x : BI.own (ER (initOf cellsX toksX)) ⊢ (|==> bigSep Finset.univ (G m) : sProp 𝕄) := by
  have hX (Φ : GSem nD τ sig → sProp 𝕄) : bigSep cellsX Φ = bigSep Finset.univ fun c : Dev nD => bigSep Finset.univ fun k : CK => Φ (kcell (c, k)) := by
    unfold cellsX; rw [bigSep_map, bigSep_univ_prod]; rfl
  have hT : bigSep toksX (fun x => (dutyTok ER x.1 x.2.1 x.2.2 : sProp 𝕄)) = bigSep Finset.univ fun c : Dev nD => toks c := by
    unfold toksX; rw [bigSep_map, bigSep_univ_prod]
    exact bigSep_congr fun c _ => by unfold toks; rw [bigSep_univ_sum, bigSep_univ_sum, bigSep_univ_sum]; rfl
  iintro HX
  imod (Rounds.fund ER (rd m) cellsX toksX) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters -/

theorem ownSems0_eq (c : Dev nD) : (Pipeline.ownSems0 (Ix := Unit) (Name := ℕ) (U := UU) (Lvl := ℕ) (Val := Elt F) (τ := τ) osem c : sProp 𝕄)
    = iprop(semVal (exitCell c) 0 ∗ (bigSep Finset.univ fun k => semVal (sendCell c k) 0) ∗ (bigSep Finset.univ fun k => semVal (recvCell c k) 0)) := by
  unfold Pipeline.ownSems0
  rw [bigSep_univ_sum, bigSep_univ_sum, bigSep_univ_of_subsingleton ()]; rfl

theorem unscopedSems0_eq (c : Dev nD) : (unscopedSems0 c : sProp 𝕄) = semVal (barCell c) 0 := by
  unfold unscopedSems0; rw [bigSep_eq_bigSepL_of_eq [SemLoc.reg barSem] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HE, HS, HV⟩, HB⟩
  isplitl [HB HE]
  · isplitl [HB]; · iexact HB
    iexact HE
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (rd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing round the ring -/

/-- A family of tokens of the cells `g` of each device, one per step, dealt so that step `k`'s goes `k + 1` places back. -/
theorem dealt (Φ : Dev nD → Fin 15 → sProp 𝕄) :
    (bigSep Finset.univ fun c => bigSep Finset.univ fun k => Φ c k) = bigSep Finset.univ fun c => bigSep Finset.univ fun k => Φ (at_ c k) k := by
  rw [bigSep_univ_comm, bigSep_univ_comm fun (c : Dev nD) (k : Fin 15) => Φ (at_ c k) k]
  exact bigSep_congr fun k _ => bigSep_univ_equiv (shift k) fun c => Φ c k

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    dealt fun c k => dutyTok ER (barCell c) 0 k, dealt fun c k => dutyTok ER (exitCell c) 0 k, dealt fun c k => dutyTok ER (recvCell c k) 0 (0 : Fin 15)]
  iintro ⟨⟨H1, H2⟩, H3, H4⟩
  isplitl [H1]; · iexact H1
  isplitl [H2]; · iexact H2
  isplitl [H3]; · iexact H3
  iexact H4

theorem posns_intro (c : Dev nD) : (bigSep Finset.univ fun k : CK => (atPos ER (kcell (c, k)) 0 (∅ : Finset (Fin 15)) 0 : sProp 𝕄)) ⊢ posns c 0 := by
  rw [bigSep_CK]
  unfold posns
  iintro ⟨⟨H1, H2⟩, H3, H4⟩
  isplitl [H1]; · iexact H1
  isplitl [H2]; · iexact H2
  isplitl [H3]; · iexact H3
  iexact H4

theorem ghost_intro (K : Dev nD × CK → ℕ) (c : Dev nD) : iprop(records m K ∗ (posns c 0 ∗ payToks c)) ⊢ G' m c := by
  unfold G' ghost
  iintro H
  iexists K
  iexact H

theorem regroup :
    (bigSep Finset.univ fun c : Dev nD => iprop((bigSep Finset.univ fun k : CK => iprop(∃ κ : ℕ, cellInv ER (rd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd m) κ (kcell ck) : sProp 𝕄))) $$ HI
  icases HK with ⟨%K, #HI⟩
  ihave Htk := (toks_around (F := F)) $$ Htok
  iapply (BI.bigSep_with_persistent (R := records m K) (Φ := fun c : Dev nD => iprop(posns c 0 ∗ payToks c)) fun c _ => ghost_intro m K c)
  isplitr
  · unfold records; isplitl; · iexact HI
    iexact HR
  · rw [bigSep_sep']
    isplitl [Hat]
    · iapply (show (bigSep Finset.univ fun c : Dev nD => bigSep Finset.univ fun k : CK => (atPos ER (kcell (c, k)) 0 (∅ : Finset (Fin 15)) 0 : sProp 𝕄))
        ⊢ bigSep Finset.univ fun c : Dev nD => posns c 0 from bigSep_mono fun c _ => posns_intro c)
      iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Steps that lead from somewhere to `c`: one for each step. -/
theorem count (c : Dev nD) (p : Fin 15 → Prop) [DecidablePred p] (a : ℕ) :
    (∑ d : Dev nD, ∑ k : Fin 15, if p k ∧ c = at_ d k then a else 0) = ∑ k : Fin 15, if p k then a else 0 := by
  rw [Finset.sum_comm]
  refine Finset.sum_congr rfl fun k _ => ?_
  by_cases hp : p k
  · rw [if_pos hp, Finset.sum_congr rfl (g := fun d => if d = frm c k then a else 0) fun d _ => if_congr
      ⟨fun h => by rw [h.2, frm_at], fun h => ⟨hp, by rw [h, at_frm]⟩⟩ rfl rfl, Finset.sum_ite_eq', if_pos (Finset.mem_univ _)]
  · rw [if_neg hp]
    exact Finset.sum_eq_zero fun d _ => if_neg fun h => hp h.1

theorem tally_at (c d : Dev nD) (s s' : SemLoc sig) (a : ℕ) :
    (tallyAt ((d : Thread nD τ), s') () a : CT) ((c : Thread nD τ), s) () = if s = s' ∧ c = d then a else 0 := by
  rw [tallyAt_apply]
  refine if_congr ⟨fun h => ⟨congrArg Prod.snd h.1, congrArg (fun g : GSem nD τ sig => g.1.1) h.1⟩, fun h => ⟨by rw [h.1, h.2], rfl⟩⟩ rfl rfl

/-- What is owed in all to a cell of device `c`. -/
theorem owed_at (c : Dev nD) (s : SemLoc sig) :
    (∑ d : Dev nD, O₀ d ((c : Thread nD τ), s) ())
      = ((∑ k : Fin 15, if s = .reg exitSem then 1 else 0) + ∑ k : Fin 15, if s = .dma (recvSem k) then N else 0) + ∑ k : Fin 15, if s = .reg barSem then 1 else 0 := by
  rw [← count c (fun _ => s = .reg exitSem) 1, ← count c (fun k => s = .dma (recvSem k)) N, ← count c (fun _ => s = .reg barSem) 1,
    ← Finset.sum_add_distrib, ← Finset.sum_add_distrib]
  refine Finset.sum_congr rfl fun d _ => ?_
  unfold O₀ O₂ O₃
  rw [Pi.add_apply, Finsupp.add_apply, Pi.add_apply, Finsupp.add_apply, owing_slots, owing_slots, owing_slots]
  unfold exitOwe recvOwe barOwe
  simp only [tally_at]

theorem launch_eq (c : Dev nD) (s : SemLoc sig) (a : ℕ) (h : (∑ d : Dev nD, O₀ d ((c : Thread nD τ), s) ()) = a) :
    tallyOn ((c : Thread nD τ), s) (launchCredit (Pipeline.owing O₀) 0 ((c : Thread nD τ), s)) = (tallyAt ((c : Thread nD τ), s) () a : CT) := by
  unfold tallyAt; refine congrArg _ (Finsupp.ext fun u => ?_); cases u
  rw [Pipeline.launchCredit_owing, Finsupp.single_eq_same, h]

theorem bar_ne_exit : (SemLoc.reg barSem : SemLoc sig) ≠ .reg exitSem := fun h => by cases csem_inj (a₁ := .inl false) (a₂ := .inl true) h
theorem recvSem_inj {k k' : Fin 15} (h : (SemLoc.dma (recvSem k) : SemLoc sig) = .dma (recvSem k')) : k = k' := by
  cases csem_inj (a₁ := .inr (.inr k)) (a₂ := .inr (.inr k')) h; rfl

theorem recvSem_iff (k k' : Fin 15) : ((SemLoc.dma (recvSem k) : SemLoc sig) = .dma (recvSem k')) ↔ k = k' := ⟨recvSem_inj, fun h => by rw [h]⟩

theorem owed_bar (c : Dev nD) : (∑ d : Dev nD, O₀ d (barCell c) ()) = 15 := by
  rw [owed_at]
  simp only [bar_ne_exit, reduceCtorEq, if_false, if_true, Finset.sum_const_zero]; rfl
theorem owed_exit (c : Dev nD) : (∑ d : Dev nD, O₀ d (exitCell c) ()) = 15 := by
  rw [owed_at]
  simp only [bar_ne_exit.symm, reduceCtorEq, if_false, if_true, Finset.sum_const_zero]; rfl
theorem owed_recv (c : Dev nD) (k : Fin 15) : (∑ d : Dev nD, O₀ d (recvCell c k) ()) = N := by
  rw [owed_at]
  simp only [recvSem_iff, reduceCtorEq, if_false, Finset.sum_const_zero, Finset.sum_ite_eq, Finset.mem_univ, if_true, Nat.zero_add, Nat.add_zero]

/-- The cells a device is owed to. -/
def isem : Bool ⊕ Fin 15 → SemLoc sig
  | .inl false => .reg barSem
  | .inl true => .reg exitSem
  | .inr k => .dma (recvSem k)

theorem isem_inj : Function.Injective isem := by decide +kernel

theorem regrouped (A B X : sProp 𝕄) : iprop((A ∗ B) ∗ X) ⊢ iprop(A ∗ B ∗ X) := sep_assoc.1

theorem creds (c : Dev nD) : (Pipeline.launchCred O₀ c : sProp 𝕄) ⊢ credits c := by
  unfold Pipeline.launchCred
  refine (bigSep_subset (Finset.subset_univ (Finset.univ.map ⟨isem, isem_inj⟩))).trans ?_
  rw [bigSep_map, bigSep_univ_sum, bigSep_bool]
  refine (regrouped _ _ _).trans (Entails.of_eq ?_)
  unfold credits
  rw [← launch_eq c _ _ (owed_bar c), ← launch_eq c _ _ (owed_exit c),
    bigSep_congr (s := Finset.univ) (fun (k : Fin 15) _ => congrArg (fun T => (cred T : sProp 𝕄)) (launch_eq c _ _ (owed_recv c k)).symm)]
  rfl

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H0, H1⟩
  isplitl [Hs]; · iexact Hs
  isplitl [H0]; · iexact H0
  iexact H1

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ zeros
  iintro ⟨⟨HzB, HzE, HzS, HzV⟩, H0, H1⟩
  isplitl [HzB]; · iexact HzB
  isplitl [HzE HzS HzV]
  · isplitl [HzE]; · iexact HzE
    isplitl [HzS]; · iexact HzS
    iexact HzV
  isplitl [H0]; · iexact H0
  iexact H1

/-- The staging semaphores are none of the exchange's. -/
theorem kind_stage (w : Fin cfg0.W) (s : Fin (cfg0.win w).nbuf) : kind (.dma ((cfg0.win w).sem s)) = none :=
  kind_none fun k => by revert w s k; decide +kernel

theorem waits (c : Dev nD) : (levAts L lv : sProp 𝕄) ⊢ Pipeline.cellsWaits cfgs (dats m) () 0 c :=
  Pipeline.cellsWaits_intro cfgs (dats m) () 0 c fun w s t =>
    mayWait_of c _ 0 _ (by rw [kind_stage]; exact le_refl _) (by
      rcases t with ⟨_ | _, ht⟩
      · exact above_O₀ (by decide) c
      · exact Above.zero 0)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters every fair run of the program ends, each device's arrays at the computed
    contents and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays after the run hold what they held. -/
theorem finalA_arg0 (c : Dev nD) : finalA m c (0 : Fin 5) = m ((c : Thread nD τ).loc main_arg0) := (dats (F := F) m 0 c).arrAt_in (0 : Fin 5) rfl _
theorem finalA_arg1 (c : Dev nD) : finalA m c (1 : Fin 5) = m ((c : Thread nD τ).loc main_arg1) := (dats (F := F) m 0 c).arrAt_in (1 : Fin 5) rfl _
theorem finalA_arg2 (c : Dev nD) : finalA m c (2 : Fin 5) = m ((c : Thread nD τ).loc main_arg2) := (dats (F := F) m 0 c).arrAt_in (2 : Fin 5) rfl _
theorem finalA_arg3 (c : Dev nD) : finalA m c (3 : Fin 5) = m ((c : Thread nD τ).loc main_arg3) := (dats (F := F) m 0 c).arrAt_in (3 : Fin 5) rfl _

/-! ## The windows are the whole arrays -/

theorem read_0 (c : Dev nD) (f : Buf (Elt F) ((c : Thread nD τ).loc main_arg0)) : (win0_0.blk t0_0).view.read (Elt F) f = f :=
  Memref.read_access_unit_zero (Elt F) main_arg0
    (show (fun a => (win0_0.index t0_0) a * main_arg0.ty.shape.size a) = fun _ => 0 from funext fun a => by fin_cases a <;> decide) (fun a => by fin_cases a <;> decide) f
theorem read_1 (c : Dev nD) (f : Buf (Elt F) ((c : Thread nD τ).loc main_arg1)) : (win0_1.blk t0_0).view.read (Elt F) f = f :=
  Memref.read_access_unit_zero (Elt F) main_arg1
    (show (fun a => (win0_1.index t0_0) a * main_arg1.ty.shape.size a) = fun _ => 0 from funext fun a => by fin_cases a <;> decide) (fun a => by fin_cases a <;> decide) f
theorem read_2 (c : Dev nD) (f : Buf (Elt F) ((c : Thread nD τ).loc main_arg2)) : (win0_2.blk t0_0).view.read (Elt F) f = f :=
  Memref.read_access_unit_zero (Elt F) main_arg2
    (show (fun a => (win0_2.index t0_0) a * main_arg2.ty.shape.size a) = fun _ => 0 from funext fun a => by fin_cases a <;> decide) (fun a => by fin_cases a <;> decide) f
theorem read_3 (c : Dev nD) (f : Buf (Elt F) ((c : Thread nD τ).loc main_arg3)) : (win0_3.blk t0_0).view.read (Elt F) f = f :=
  Memref.read_access_unit_zero (Elt F) main_arg3
    (show (fun a => (win0_3.index t0_0) a * main_arg3.ty.shape.size a) = fun _ => 0 from funext fun a => by fin_cases a <;> decide) (fun a => by fin_cases a <;> decide) f
theorem read_4 (c : Dev nD) (f : Buf (Elt F) ((c : Thread nD τ).loc main_v1)) : (win0_4.blk t0_0).view.read (Elt F) f = f :=
  Memref.read_access_unit_zero (Elt F) main_v1
    (show (fun a => (win0_4.index t0_0) a * main_v1.ty.shape.size a) = fun _ => 0 from funext fun a => by fin_cases a <;> decide) (fun a => by fin_cases a <;> decide) f

theorem xin_eq (c : Dev nD) : xin m c = m ((c : Thread nD τ).loc main_arg0) := read_0 c _
theorem rwin_eq (c : Dev nD) : rwin m c = m ((c : Thread nD τ).loc main_arg1) := read_1 c _
theorem ixin_eq (c : Dev nD) : ixin m c = m ((c : Thread nD τ).loc main_arg2) := read_2 c _
theorem ew_eq (c : Dev nD) : ew m c = m ((c : Thread nD τ).loc main_arg3) := read_3 c _

/-- The result array after the run. -/
theorem finalA_out (c : Dev nD) : finalA m c (4 : Fin 5) = outAt m c := by
  have hf : (dats (F := F) m 0 c).flushed (4 : Fin 5) t0_0 = outAt m c := by
    show (cfg0.win (4 : Fin 5)).cut _ (outAt m c) = _
    exact funext fun _ => rfl
  have hw : ((cfg0.win (4 : Fin 5)).blk t0_0).view.read (Elt F) ((dats (F := F) m 0 c).arrAt (4 : Fin 5) cfg0.N) = (dats (F := F) m 0 c).flushed (4 : Fin 5) t0_0 := by
    rw [show cfg0.N = t0_0.val + 1 from rfl, (dats m 0 c).arrAt_succ (4 : Fin 5) t0_0, flush0_4, if_pos rfl]
    exact View.read_write_univ _ _
  rw [hf] at hw
  exact (read_4 c _).symm.trans hw

/-- What a run leaves: the result computed, the arguments as they were, every counter at zero. -/
theorem run_out : θ_run defs (onTc (τ := τ) (main (F := F))) ⟨m, fun _ => 0, ρ⟩ (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun _ h => ⟨fun c => ⟨(h.1 c (4 : Fin 5)).trans (finalA_out m c), (h.1 c (0 : Fin 5)).trans (finalA_arg0 m c),
    (h.1 c (1 : Fin 5)).trans (finalA_arg1 m c), (h.1 c (2 : Fin 5)).trans (finalA_arg2 m c), (h.1 c (3 : Fin 5)).trans (finalA_arg3 m c)⟩, h.2⟩) (run_main m ρ)

/-- Every run ends with the arguments as they were and every counter at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun _ h => ⟨fun c => (h.1 c).2, h.2⟩) (run_out m ρ)

end Cert.Moe
end
-- ==== Proof.Math.lean ====
/-
# The arithmetic of one row

A row's probabilities, the mixture of two experts it is sent to, and the sum over all the experts, most of them weighted
by zero, that the kernel takes instead: the two agree where the row's scores are real numbers.
-/
module

public import Idealize.ShloMosaic.Lib.Pointwise

@[expose] public section

noncomputable section

namespace Cert.Moe

open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem IsReal.sum {ι : Type} (s : Finset ι) (f : ι → EReal) (hf : ∀ i ∈ s, IsReal (f i)) : IsReal (∑ i ∈ s, f i) := by
  refine Finset.sum_induction f IsReal ?_ ⟨0, rfl⟩ hf
  rintro _ _ ⟨a, rfl⟩ ⟨b, rfl⟩
  exact ⟨a + b, (EReal.coe_add a b).symm⟩

/-! ## The probabilities of a row -/

/-- The score a row `x` gives expert `e`. -/
def score (x : Fin 256 → EReal) (rt : Fin 256 → Fin 64 → EReal) (e : Fin 64) : EReal := ∑ k, x k * rt k e

/-- The greatest of a row's scores. -/
def top (s : Fin 64 → EReal) : EReal := Finset.univ.fold max (Ideal.ofBits FTy.f32 4286578688#32) s

/-- The probability a row of scores `s` gives expert `e`. -/
def soft (s : Fin 64 → EReal) (e : Fin 64) : EReal :=
  Ideal.div (Ideal.exp (s e - top s)) (∑ e', Ideal.exp (s e' - top s))

theorem score_real (x : Fin 256 → EReal) (rt : Fin 256 → Fin 64 → EReal) (hx : ∀ k, IsReal (x k)) (hr : ∀ k e, IsReal (rt k e)) (e : Fin 64) :
    IsReal (score x rt e) := IsReal.sum _ _ fun k _ => (hx k).mul (hr k e)

theorem top_real (s : Fin 64 → EReal) (hs : ∀ e, IsReal (s e)) : IsReal (top s) := by
  have hb : Ideal.ofBits FTy.f32 4286578688#32 = (⊥ : EReal) := by simp [Ideal.ofBits, Ideal.ieee]
  have h : top s = Finset.univ.sup s := by unfold top; rw [hb]; rfl
  obtain ⟨e, -, he⟩ := Finset.exists_mem_eq_sup Finset.univ ⟨(0 : Fin 64), Finset.mem_univ _⟩ s
  rw [h, he]; exact hs e

/-- The probabilities are positive real numbers. -/
theorem soft_pos (s : Fin 64 → EReal) (hs : ∀ e, IsReal (s e)) (e : Fin 64) : ∃ p : ℝ, 0 < p ∧ soft s e = (p : EReal) := by
  obtain ⟨t, ht⟩ := top_real s hs
  choose r hr using hs
  have hx : ∀ e', Ideal.exp (s e' - top s) = ((Real.exp (r e' - t) : ℝ) : EReal) := fun e' => by
    rw [hr, ht, ← EReal.coe_sub, Ideal.exp_coe]
  have hsum : (∑ e', Ideal.exp (s e' - top s)) = ((∑ e', Real.exp (r e' - t) : ℝ) : EReal) := by
    rw [coe_sum]; exact Finset.sum_congr rfl fun e' _ => hx e'
  have hpos : 0 < ∑ e', Real.exp (r e' - t) := Finset.sum_pos (fun _ _ => Real.exp_pos _) ⟨0, Finset.mem_univ _⟩
  refine ⟨Real.exp (r e - t) * (1 / ∑ e', Real.exp (r e' - t)), by positivity, ?_⟩
  unfold soft
  rw [hsum, hx, Ideal.div_coe hpos.ne', EReal.coe_mul]

/-- A share of positive gates is a real number that is not negative. -/
theorem div_nonneg_real {p q : ℝ} (hp : 0 < p) (hq : 0 < q) : ∃ w : ℝ, 0 ≤ w ∧ Ideal.div (p : EReal) (q : EReal) = (w : EReal) :=
  ⟨p * (1 / q), by positivity, by rw [Ideal.div_coe hq.ne', EReal.coe_mul]⟩

/-! ## The mixture -/

/-- A row sent to experts `a` and `b`, whose weights for the result column at hand are `w a` and `w b`. -/
def mix (s : Fin 64 → EReal) (x : Fin 256 → EReal) (w : Fin 64 → Fin 256 → EReal) (a b : Fin 64) : EReal :=
  Ideal.div (soft s a) (soft s a + soft s b) * (∑ k, x k * w a k) + Ideal.div (soft s b) (soft s a + soft s b) * ∑ k, x k * w b k

/-- A real number that is not negative distributes over any sum. -/
theorem coe_mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert i s hi ih =>
    rw [Finset.sum_insert hi, Finset.sum_insert hi,
      EReal.left_distrib_of_nonneg_of_ne_top (EReal.coe_nonneg.2 hc) (EReal.coe_ne_top c), ih]

/-- What one expert adds: its product scaled by the two coefficients, each of them kept only where the row names the expert. -/
def term (x : Fin 256 → EReal) (w : Fin 64 → Fin 256 → EReal) (a b : Fin 64) (u v : EReal) (e : Fin 64) : EReal :=
  ∑ k, x k * ((if a = e then u else 0) + if b = e then v else 0) * w e k

theorem term_eq (x : Fin 256 → EReal) (w : Fin 64 → Fin 256 → EReal) (a b : Fin 64) (u v : ℝ) (hu : 0 ≤ u) (hv : 0 ≤ v) (e : Fin 64) :
    term x w a b u v e = (if a = e then (u : EReal) * ∑ k, x k * w a k else 0) + if b = e then (v : EReal) * ∑ k, x k * w b k else 0 := by
  have hu' : (0 : EReal) ≤ (if a = e then (u : EReal) else 0) := by split <;> simp [hu]
  have hv' : (0 : EReal) ≤ (if b = e then (v : EReal) else 0) := by split <;> simp [hv]
  have h1 : ∀ k, x k * ((if a = e then (u : EReal) else 0) + if b = e then (v : EReal) else 0) * w e k
      = (if a = e then (u : EReal) else 0) * (x k * w e k) + (if b = e then (v : EReal) else 0) * (x k * w e k) := fun k => by
    rw [mul_comm (x k), mul_assoc, EReal.right_distrib_of_nonneg hu' hv']
  unfold term
  rw [Finset.sum_congr rfl fun k _ => h1 k, Finset.sum_add_distrib]
  congr 1
  · split
    · next h => subst h; exact (coe_mul_sum _ u hu _).symm
    · simp
  · split
    · next h => subst h; exact (coe_mul_sum _ v hv _).symm
    · simp

/-- The sum over every expert is the mixture of the two. -/
theorem sum_term (s : Fin 64 → EReal) (hs : ∀ e, IsReal (s e)) (x : Fin 256 → EReal) (w : Fin 64 → Fin 256 → EReal) (a b : Fin 64) :
    ∑ e, term x w a b (Ideal.div (soft s a) (soft s a + soft s b)) (Ideal.div (soft s b) (soft s a + soft s b)) e = mix s x w a b := by
  obtain ⟨p, hp, ep⟩ := soft_pos s hs a
  obtain ⟨q, hq, eq⟩ := soft_pos s hs b
  unfold mix
  rw [ep, eq, ← EReal.coe_add]
  obtain ⟨u, hu, eu⟩ := div_nonneg_real hp (add_pos hp hq)
  obtain ⟨v, hv, ev⟩ := div_nonneg_real hq (add_pos hp hq)
  rw [eu, ev, Finset.sum_congr rfl fun e _ => term_eq x w a b u v hu hv e, Finset.sum_add_distrib]
  simp

/-! ## Experts by device -/

/-- Expert `q` of the four that device `o` holds. -/
def expertOf (o : Fin 16) (q : Fin 4) : Fin 64 := ⟨4 * o + q, by omega⟩

/-- A sum over the experts, device by device. -/
theorem sum_by_device (f : Fin 64 → EReal) : ∑ e, f e = ∑ o : Fin 16, ∑ q : Fin 4, f (expertOf o q) := by
  rw [← Fintype.sum_prod_type', ← Equiv.sum_comp (finProdFinEquiv (m := 16) (n := 4)) f]
  refine Finset.sum_congr rfl fun p _ => congrArg f (Fin.ext ?_)
  show p.2.val + 4 * p.1.val = 4 * p.1.val + p.2.val
  omega

end Cert.Moe

end
-- ==== Proof.Ref.lean ====
/-
# What the reference computes, element by element

The reference's composed term is split into its named parts, each part is read at an index, and the two gathers are read
where their index words are in range.
-/
module

public import proofs.«01_k».proof.Proof.Gen.ReferenceIdeal.Run
public import proofs.«01_k».proof.Proof.Math

@[expose] public section

set_option maxRecDepth 16384

noncomputable section

namespace Cert.Moe.Ref

open Cert.ReferenceIdeal Cert.ReferenceIdeal.Gen Idealize.ShloMosaic

/-- The router's scores. -/
def scores (x : FVec Ideal S8192x256 .f32) (rt : FVec Ideal S256x64 .f32) : FVec Ideal S8192x64 .f32 :=
  Host.dotGeneral dot_S8192x256_S256x64_S8192x64_1_0_0_1_n_n none x rt

/-- The exponentials of the scores less the row's greatest. -/
def exps (x : FVec Ideal S8192x256 .f32) (rt : FVec Ideal S256x64 .f32) : FVec Ideal S8192x64 .f32 :=
  Host.exp (subf (scores x rt) (broadcastInDim S8192x64 ![0, 1] bcast_S8192x1_S8192x64_0_1 (broadcastInDim S8192x1 ![0] bcast_S8192_S8192x1_0
    (Host.reduce FloatOps.maximumf (scores x rt) (constant S_ .f32 0xFF800000#32) reducesTo_S8192x64_S8192_d1 h_S_))))

/-- The router's probabilities. -/
def probs (x : FVec Ideal S8192x256 .f32) (rt : FVec Ideal S256x64 .f32) : FVec Ideal S8192x64 .f32 :=
  Host.divf (exps x rt) (broadcastInDim S8192x64 ![0, 1] bcast_S8192x1_S8192x64_0_1 (broadcastInDim S8192x1 ![0] bcast_S8192_S8192x1_0
    (Host.reduceAdd (exps x rt) (constant S_ .f32 0x00000000#32) reducesTo_S8192x64_S8192_d1 h_S_)))

/-- An index word, moved up by `n` when it is negative. -/
def wrap (n : BitVec 32) (v : IVec S8192 32) : IVec S8192 32 :=
  select (cmpi .slt v (broadcastInDim S8192 ![] bcast_S_S8192 (constantI S_ 32 0#32)))
    (addi v (broadcastInDim S8192 ![] bcast_S_S8192 (constantI S_ 32 n))) v

/-- The row's number beside the index word `v`. -/
def pairs (v : IVec S8192 32) : IVec S8192x2 32 :=
  concatenate S8192x2 1 [⟨S8192x1, broadcastInDim S8192x1 ![0] bcast_S8192_S8192x1_0 (wrap 8192#32 (iotaInDim S8192 32 0))⟩,
    ⟨S8192x1, broadcastInDim S8192x1 ![0] bcast_S8192_S8192x1_0 (wrap 64#32 v)⟩] concatenates_S8192x1_S8192x1_S8192x2_d1

/-- The probability each row gives the expert it names in `v`. -/
def gate (x : FVec Ideal S8192x256 .f32) (rt : FVec Ideal S256x64 .f32) (v : IVec S8192 32) : FVec Ideal S8192 .f32 :=
  Host.gather gather_S8192x64_S8192x2_S8192_n_01_n_n_01_1_11 (probs x rt) (pairs v)

/-- Each row through the weights of the expert it names in `v`. -/
def through (x : FVec Ideal S8192x256 .f32) (w : FVec Ideal S64x256x512 .f32) (v : IVec S8192 32) : FVec Ideal S8192x512 .f32 :=
  Host.dotGeneral dot_S8192x256_S8192x256x512_S8192x512_1_1_n_2_0_0 none x
    (Host.gather gather_S64x256x512_S8192x1_S8192x256x512_12_0_n_n_0_1_1256512 w
      (broadcastInDim S8192x1 ![0] bcast_S8192_S8192x1_0 (wrap 64#32 v)))

/-- One expert's share of the result: the product scaled by the gate `g` over the sum `t` of the gates. -/
def scaled (g t : FVec Ideal S8192 .f32) (y : FVec Ideal S8192x512 .f32) : FVec Ideal S8192x512 .f32 :=
  mulf (broadcastInDim S8192x512 ![0, 1] bcast_S8192x1_S8192x512_0_1 (broadcastInDim S8192x1 ![0] bcast_S8192_S8192x1_0 (Host.divf g t))) y

/-- The column of first experts. -/
def first (ix : IVec S8192x2 32) : IVec S8192 32 :=
  shapeCast S8192 (extractStridedSlice S8192x1 ![0, 0] ix slices_S8192x2_S8192x1_0_0) shapeCasts_S8192x1_S8192
/-- The column of second experts. -/
def second (ix : IVec S8192x2 32) : IVec S8192 32 :=
  shapeCast S8192 (extractStridedSlice S8192x1 ![0, 1] ix slices_S8192x2_S8192x1_0_1) shapeCasts_S8192x1_S8192

/-- The reference's result. -/
def out (x : FVec Ideal S8192x256 .f32) (rt : FVec Ideal S256x64 .f32) (ix : IVec S8192x2 32) (w : FVec Ideal S64x256x512 .f32) :
    FVec Ideal S8192x512 .f32 :=
  addf (scaled (gate x rt (first ix)) (addf (gate x rt (first ix)) (gate x rt (second ix))) (through x w (first ix)))
    (scaled (gate x rt (second ix)) (addf (gate x rt (first ix)) (gate x rt (second ix))) (through x w (second ix)))

/-- The generated term is this one. -/
theorem res_eq (m : (ℓ : Loc nD τ sig) → Buf (Elt Ideal) ℓ) (c : Dev nD) :
    Value.res_main_v68 (F := Ideal) m c = out (m ((c.tc : Thread nD τ).loc main_arg0)) (m ((c.tc : Thread nD τ).loc main_arg1))
      (m ((c.tc : Thread nD τ).loc main_arg2)) (m ((c.tc : Thread nD τ).loc main_arg3)) := by
  unfold Value.res_main_v68; rfl

/-! ## The parts at an index -/

theorem probs_apply (x : FVec Ideal S8192x256 .f32) (rt : FVec Ideal S256x64 .f32) (t : Fin 8192) (e : Fin 64) :
    probs x rt (ix2 t e) = soft (score (fun k => x (ix2 t k)) fun k e => rt (ix2 k e)) e := by
  pointwise [probs, exps, scores]
  rfl

/-- A word below `2 ^ 31` is not negative, so it stays. -/
theorem wrap_apply (n : BitVec 32) (v : IVec S8192 32) (t : Fin 8192) (a : ℕ) (ha : a < 2 ^ 31) (h : v (ix1 t) = BitVec.ofNat 32 a) :
    wrap n v (ix1 t) = BitVec.ofNat 32 a := by
  pointwise [wrap]
  have hn : ¬ (BitVec.ofNat 32 a).toInt < (0#32 : BitVec 32).toInt := by
    rw [BitVec.toInt_ofNat', BitVec.toInt_zero]
    simp only [Int.bmod_def]; omega
  rw [h, show IntOp.cmpi .slt (BitVec.ofNat 32 a) 0#32 = BitVec.ofBool (decide ((BitVec.ofNat 32 a).toInt < (0#32 : BitVec 32).toInt)) from rfl, decide_eq_false hn]
  rfl

theorem pairs_zero (v : IVec S8192 32) (t : Fin 8192) : pairs v (ix2 t 0) = BitVec.ofNat 32 t := by
  pointwise [pairs]
  exact wrap_apply _ _ t t (by omega) rfl

theorem pairs_one (v : IVec S8192 32) (t : Fin 8192) : pairs v (ix2 t 1) = wrap 64#32 v (ix1 t) := by
  pointwise [pairs]

/-- A word below its array's extent is read as the number it stands for. -/
theorem clamp_word {n a : ℕ} (ha : a < n) (hn : n ≤ 2 ^ 31) : min (BitVec.ofNat 32 a).toInt.toNat (n - 1) = a := by
  rw [BitVec.toInt_ofNat']
  simp only [Int.bmod_def]; omega

/-- The gather of one probability per row, where its index words are in range. -/
theorem gather_pair (x : FVec Ideal S8192x64 .f32) (ix : IVec S8192x2 32) (t : Fin 8192) (b : Fin 8192) (e : Fin 64)
    (h0 : ix (ix2 t 0) = BitVec.ofNat 32 b) (h1 : ix (ix2 t 1) = BitVec.ofNat 32 e) :
    Host.gather gather_S8192x64_S8192x2_S8192_n_01_n_n_01_1_11 x ix (ix1 t) = x (ix2 b e) := by
  refine congrArg x (funext fun a => Fin.ext ?_)
  match a with
  | ⟨0, _⟩ =>
    show min (ix _).toInt.toNat (8192 - 1) + 0 + 0 = b.val
    rw [show ix _ = BitVec.ofNat 32 b from (congrArg ix (eq_ix2 _)).trans h0, clamp_word b.isLt (by decide), Nat.add_zero]
  | ⟨1, _⟩ =>
    show min (ix _).toInt.toNat (64 - 1) + 0 + 0 = e.val
    rw [show ix _ = BitVec.ofNat 32 e from (congrArg ix (eq_ix2 _)).trans h1, clamp_word e.isLt (by decide), Nat.add_zero]

/-- The gather of one expert's weights per row, where its index word is in range. -/
theorem gather_slab (w : FVec Ideal S64x256x512 .f32) (ix : IVec S8192x1 32) (t : Fin 8192) (k : Fin 256) (j : Fin 512) (e : Fin 64)
    (h : ix (ix2 t 0) = BitVec.ofNat 32 e) :
    Host.gather gather_S64x256x512_S8192x1_S8192x256x512_12_0_n_n_0_1_1256512 w ix (ix3 t k j) = w (ix3 e k j) := by
  refine congrArg w (funext fun a => Fin.ext ?_)
  match a with
  | ⟨0, _⟩ =>
    show min (ix _).toInt.toNat (64 - 1) + 0 + 0 = e.val
    rw [show ix _ = BitVec.ofNat 32 e from (congrArg ix (eq_ix2 _)).trans h, clamp_word e.isLt (by decide), Nat.add_zero]
  | ⟨1, _⟩ => show 0 + 0 + k.val = k.val; omega
  | ⟨2, _⟩ => show 0 + 0 + j.val = j.val; omega

theorem gate_apply (x : FVec Ideal S8192x256 .f32) (rt : FVec Ideal S256x64 .f32) (v : IVec S8192 32) (t : Fin 8192) (e : Fin 64)
    (h : v (ix1 t) = BitVec.ofNat 32 e) : gate x rt v (ix1 t) = soft (score (fun k => x (ix2 t k)) fun k e => rt (ix2 k e)) e := by
  unfold gate
  rw [gather_pair _ _ t t e (pairs_zero v t) ((pairs_one v t).trans (wrap_apply _ v t e (by omega) h)), probs_apply]

theorem through_apply (x : FVec Ideal S8192x256 .f32) (w : FVec Ideal S64x256x512 .f32) (v : IVec S8192 32) (t : Fin 8192) (j : Fin 512)
    (e : Fin 64) (h : v (ix1 t) = BitVec.ofNat 32 e) : through x w v (ix2 t j) = ∑ k, x (ix2 t k) * w (ix3 e k j) := by
  pointwise [through]
  refine Finset.sum_congr rfl fun k _ => ?_
  rw [gather_slab w _ t k j e]
  pointwise
  exact wrap_apply _ v t e (by omega) h

theorem scaled_apply (g u : FVec Ideal S8192 .f32) (y : FVec Ideal S8192x512 .f32) (t : Fin 8192) (j : Fin 512) :
    scaled g u y (ix2 t j) = Ideal.div (g (ix1 t)) (u (ix1 t)) * y (ix2 t j) := by
  pointwise [scaled]

theorem first_apply (ix : IVec S8192x2 32) (t : Fin 8192) : first ix (ix1 t) = ix (ix2 t 0) := by
  pointwise [first]
theorem second_apply (ix : IVec S8192x2 32) (t : Fin 8192) : second ix (ix1 t) = ix (ix2 t 1) := by
  pointwise [second]

/-- The reference's result at a row and column is the mixture of the two experts the row names. -/
theorem out_apply (x : FVec Ideal S8192x256 .f32) (rt : FVec Ideal S256x64 .f32) (ix : IVec S8192x2 32) (w : FVec Ideal S64x256x512 .f32)
    (t : Fin 8192) (j : Fin 512) (a b : Fin 64) (ha : ix (ix2 t 0) = BitVec.ofNat 32 a) (hb : ix (ix2 t 1) = BitVec.ofNat 32 b) :
    out x rt ix w (ix2 t j) = mix (score (fun k => x (ix2 t k)) fun k e => rt (ix2 k e)) (fun k => x (ix2 t k)) (fun e k => w (ix3 e k j)) a b := by
  have h0 := (first_apply ix t).trans ha
  have h1 := (second_apply ix t).trans hb
  unfold out
  simp only [addf_apply, Ideal.addf_def, scaled_apply, gate_apply x rt _ t _ h0, gate_apply x rt _ t _ h1, through_apply x w _ t j _ h0, through_apply x w _ t j _ h1]
  rfl

end Cert.Moe.Ref

end
-- ==== Proof.Ker.lean ====
/-
# What the kernel computes, element by element

Each device adds, over the sixteen origins and the four experts of each, the rows scaled by their coefficients for the
expert through its weights. Read at an index that is the sum over all the experts, most of them weighted by zero.
-/
module

public import proofs.«01_k».proof.Proof.Launch
public import proofs.«01_k».proof.Proof.Math

@[expose] public section

set_option maxRecDepth 16384

noncomputable section

namespace Cert.Moe

open Cert.KernelIdeal Cert.KernelIdeal.Gen Idealize.ShloMosaic

/-- Choosing by the equality of two words. -/
theorem select_eq_words {α : Type} (x y : BitVec 32) (u v : α) : Scalar.select (IntOp.cmpi .eq x y) u v = if x = y then u else v := by
  unfold Scalar.select IntOp.cmpi
  by_cases h : x = y
  · simp [h]
  · rw [show (x == y) = false from beq_eq_false_iff_ne.2 h, if_neg h]; rfl

/-- Two expert numbers below 64 are equal when their words are. -/
theorem ofNat_inj (a b : Fin 64) : (BitVec.ofNat 32 a = BitVec.ofNat 32 b) = (a = b) := by
  refine propext ⟨fun h => Fin.ext ?_, fun h => h ▸ rfl⟩
  have := congrArg BitVec.toNat h
  rw [BitVec.toNat_ofNat, BitVec.toNat_ofNat] at this
  omega

/-! ## The routing -/

section Routing

variable (x : FVec Ideal S512x256 .f32) (rt : FVec Ideal S256x64 .f32)

/-- The scores of row `i`. -/
abbrev rowScore (i : Fin 512) : Fin 64 → EReal := score (fun k => x (ix2 i k)) fun k e => rt (ix2 k e)

theorem pay2_apply (i : Fin 512) (e : Fin 64) : k0_pay2 (F := Ideal) x rt (ix2 i e) = soft (rowScore x rt i) e := by
  pointwise [k0_pay2]
  rfl

theorem pay5_apply (r : IVec S512x1 32) (i : Fin 512) (a : Fin 64) (h : r (ix2 i 0) = BitVec.ofNat 32 a) :
    k0_pay5 (F := Ideal) x rt r (ix2 i 0) = soft (rowScore x rt i) a := by
  pointwise [k0_pay5, k0_pay3]
  simp only [select_eq_words, h, ofNat_inj, Finset.sum_ite_eq, Finset.mem_univ, if_true, pay2_apply]

theorem pay6_apply (r : IVec S512x1 32) (i : Fin 512) (b : Fin 64) (h : r (ix2 i 0) = BitVec.ofNat 32 b) :
    k0_pay6 (F := Ideal) x rt r (ix2 i 0) = soft (rowScore x rt i) b := by
  pointwise [k0_pay6, k0_pay4]
  simp only [select_eq_words, h, ofNat_inj, Finset.sum_ite_eq, Finset.mem_univ, if_true, pay2_apply]

variable (r0 r1 : IVec S512x1 32) (i : Fin 512) (a b : Fin 64)
  (ha : r0 (ix2 i 0) = BitVec.ofNat 32 a) (hb : r1 (ix2 i 0) = BitVec.ofNat 32 b)
include ha hb

theorem pay8_apply : k0_pay8 (F := Ideal) x rt r0 r1 (ix2 i 0)
    = Ideal.div (soft (rowScore x rt i) a) (soft (rowScore x rt i) a + soft (rowScore x rt i) b) := by
  pointwise [k0_pay8, k0_pay7]
  rw [pay5_apply x rt r0 i a ha, pay6_apply x rt r1 i b hb]

theorem pay9_apply : k0_pay9 (F := Ideal) x rt r0 r1 (ix2 i 0)
    = Ideal.div (soft (rowScore x rt i) b) (soft (rowScore x rt i) a + soft (rowScore x rt i) b) := by
  pointwise [k0_pay9, k0_pay7]
  rw [pay5_apply x rt r0 i a ha, pay6_apply x rt r1 i b hb]

end Routing

/-! ## One expert -/

theorem expert_apply (r0 r1 : IVec S512x1 32) (w0 w1 : FVec Ideal S512x1 .f32) (xv : FVec Ideal S512x256 .f32) (e : Fin 64)
    (s : FVec Ideal S1x256x512 .bf16) (w : Fin 64 → Fin 256 → EReal) (i : Fin 512) (j : Fin 512) (a b : Fin 64)
    (ha : r0 (ix2 i 0) = BitVec.ofNat 32 a) (hb : r1 (ix2 i 0) = BitVec.ofNat 32 b) (hw : ∀ k, s (ix3 0 k j) = w e k) :
    expert r0 r1 w0 w1 xv (BitVec.ofNat 32 e) s (ix2 i j)
      = term (fun k => xv (ix2 i k)) w a b (w0 (ix2 i 0)) (w1 (ix2 i 0)) e := by
  pointwise [expert, coef]
  simp only [select_eq_words, ha, hb, ofNat_inj, hw]
  rfl

/-- The words by which the kernel numbers the experts of device `o`. -/
theorem expert_word : ∀ (o : Fin 16) (q : Fin 4),
    Scalar.addi (Scalar.muli (BitVec.ofNat 32 (o : ℕ)) 4#32) (BitVec.ofNat 32 (q : ℕ)) = BitVec.ofNat 32 (expertOf o q) := by decide

theorem contrib_apply (r0 r1 : IVec S512x1 32) (w0 w1 : FVec Ideal S512x1 .f32) (xv : FVec Ideal S512x256 .f32) (o : Fin 16)
    (s : Fin 4 → FVec Ideal S1x256x512 .bf16) (w : Fin 64 → Fin 256 → EReal) (i : Fin 512) (j : Fin 512) (a b : Fin 64)
    (ha : r0 (ix2 i 0) = BitVec.ofNat 32 a) (hb : r1 (ix2 i 0) = BitVec.ofNat 32 b) (hw : ∀ q k, s q (ix3 0 k j) = w (expertOf o q) k) :
    contrib r0 r1 w0 w1 xv (BitVec.ofNat 32 (o : ℕ)) (s 0) (s 1) (s 2) (s 3) (ix2 i j)
      = ∑ q : Fin 4, term (fun k => xv (ix2 i k)) w a b (w0 (ix2 i 0)) (w1 (ix2 i 0)) (expertOf o q) := by
  have h : ∀ q : Fin 4, expert r0 r1 w0 w1 xv (Scalar.addi (Scalar.muli (BitVec.ofNat 32 (o : ℕ)) 4#32) (BitVec.ofNat 32 (q : ℕ))) (s q) (ix2 i j)
      = term (fun k => xv (ix2 i k)) w a b (w0 (ix2 i 0)) (w1 (ix2 i 0)) (expertOf o q) := fun q => by
    rw [expert_word]; exact expert_apply r0 r1 w0 w1 xv _ (s q) w i j a b ha hb (hw q)
  rw [Fin.sum_univ_four, ← h 0, ← h 1, ← h 2, ← h 3]
  pointwise [contrib]

/-! ## One device -/

section Device

variable (m : (ℓ : Loc nD τ sig) → Buf (Elt Ideal) ℓ) (c : Dev nD)

/-- The words for the device's own number and its origins' numbers. -/
theorem meW_eq : ∀ c : Dev nD, meW c = BitVec.ofNat 32 (c : ℕ) := by decide +kernel
theorem orgW_eq : ∀ (k : Fin 15) (c : Dev nD), orgW k c = BitVec.ofNat 32 (frm c k : ℕ) := by decide +kernel

theorem slab_apply (o : Dev nD) (q : Fin 4) (k : Fin 256) (j : Fin 512) :
    slab (F := Ideal) q (mybf m o) (ix3 0 k j) = ew m o (ix3 q k j) := by
  unfold slab mybf
  pointwise [k0_pay1]

theorem col0_apply (i : Fin 512) : col0 (F := Ideal) m c (ix2 i 0) = ixin m c (ix2 i 0) := by
  refine congrArg (ixin m c) (funext fun d => Fin.ext ?_)
  match d with
  | ⟨0, _⟩ => show 0 + 1 * i.val = i.val; omega
  | ⟨1, _⟩ => rfl
theorem col1_apply (i : Fin 512) : col1 (F := Ideal) m c (ix2 i 0) = ixin m c (ix2 i 1) := by
  refine congrArg (ixin m c) (funext fun d => Fin.ext ?_)
  match d with
  | ⟨0, _⟩ => show 0 + 1 * i.val = i.val; omega
  | ⟨1, _⟩ => rfl

variable (i : Fin 512) (j : Fin 512) (a b : Fin 64) (w : Fin 64 → Fin 256 → EReal)

/-- The coefficient of a row's first expert; -/
def coefA : EReal := Ideal.div (soft (rowScore (xin m c) (rwin m c) i) a) (soft (rowScore (xin m c) (rwin m c) i) a + soft (rowScore (xin m c) (rwin m c) i) b)
/-- of its second. -/
def coefB : EReal := Ideal.div (soft (rowScore (xin m c) (rwin m c) i) b) (soft (rowScore (xin m c) (rwin m c) i) a + soft (rowScore (xin m c) (rwin m c) i) b)

/-- What the experts of device `o` add to row `i`. -/
def addedBy (o : Fin 16) : EReal := ∑ q : Fin 4, term (fun k => xin m c (ix2 i k)) w a b (coefA m c i a b) (coefB m c i a b) (expertOf o q)

section

variable (ha : ixin m c (ix2 i 0) = BitVec.ofNat 32 a) (hb : ixin m c (ix2 i 1) = BitVec.ofNat 32 b)
  (hw : ∀ (o : Dev nD) (q : Fin 4) (k : Fin 256), ew m o (ix3 q k j) = w (expertOf o q) k)
include ha hb hw

theorem part_apply (o : Dev nD) : part m c (BitVec.ofNat 32 (o : ℕ)) (mybf m o) (ix2 i j) = addedBy m c i a b w o := by
  have h0 := (col0_apply m c i).trans ha
  have h1 := (col1_apply m c i).trans hb
  have e0 : k0_pay3 (F := Ideal) (col0 m c) (ix2 i 0) = BitVec.ofNat 32 a := by pointwise [k0_pay3]; exact h0
  have e1 : k0_pay4 (F := Ideal) (col1 m c) (ix2 i 0) = BitVec.ofNat 32 b := by pointwise [k0_pay4]; exact h1
  have ex : ∀ k, k0_pay10 (F := Ideal) (xin m c) (ix2 i k) = xin m c (ix2 i k) := fun k => by pointwise [k0_pay10]
  refine (contrib_apply _ _ _ _ _ o (fun q => slab q (mybf m o)) w i j a b e0 e1 fun q k => (slab_apply m o q k j).trans (hw o q k)).trans ?_
  rw [pay8_apply (xin m c) (rwin m c) _ _ i a b h0 h1, pay9_apply (xin m c) (rwin m c) _ _ i a b h0 h1]
  simp only [ex]
  rfl

/-- The fold over the slots, at an index, is a sum. -/
theorem fold_apply (l : List (Fin 15)) (A : FVec Ideal S512x512 .f32) :
    l.foldl (addIn m c) A (ix2 i j) = A (ix2 i j) + (l.map fun k => addedBy m c i a b w (frm c k)).sum := by
  induction l generalizing A with
  | nil => simp
  | cons k l ih =>
    rw [List.foldl_cons, ih, List.map_cons, List.sum_cons, ← add_assoc, ← part_apply m c i j a b w ha hb hw (frm c k)]
    congr 1
    unfold addIn
    rw [orgW_eq]
    pointwise

end

/-- A device and its fifteen origins are all the devices. -/
def origins (c : Dev nD) : Fin 16 → Fin 16 := Fin.cons c (frm c)

theorem origins_bij : ∀ c, Function.Bijective (origins c) := fun c =>
  (Finite.injective_iff_bijective).1 (by revert c; decide +kernel)

/-- The kernel's result at a row and column is the mixture of the two experts the row names. -/
theorem outAt_apply (hx : ∀ k, IsReal (xin m c (ix2 i k))) (hr : ∀ k e, IsReal (rwin m c (ix2 k e)))
    (ha : ixin m c (ix2 i 0) = BitVec.ofNat 32 a) (hb : ixin m c (ix2 i 1) = BitVec.ofNat 32 b)
    (hw : ∀ (o : Dev nD) (q : Fin 4) (k : Fin 256), ew m o (ix3 q k j) = w (expertOf o q) k) :
    outAt m c (ix2 i j) = mix (rowScore (xin m c) (rwin m c) i) (fun k => xin m c (ix2 i k)) w a b := by
  have hs : ∀ e, IsReal (rowScore (xin m c) (rwin m c) i e) := score_real _ _ hx hr
  rw [← sum_term _ hs, sum_by_device]
  show _ = ∑ o : Fin 16, addedBy m c i a b w o
  rw [← (origins_bij c).sum_comp (addedBy m c i a b w), Fin.sum_univ_succ]
  refine (fold_apply m c i j a b w ha hb hw slots _).trans ?_
  rw [meW_eq, part_apply m c i j a b w ha hb hw c, show slots = List.finRange 15 from rfl, ← Fin.sum_univ_def]
  rfl

end Device

end Cert.Moe

end
-- ==== Proof.Pre.lean ====
/-
# What the precondition says of a device's arrays

Its words are experts' numbers, and its tokens and the router's weights are real numbers.
-/
module

public import proofs.«01_k».proof.Proof.Gen.Pre_routed_KernelIdeal
public import proofs.«01_k».proof.Proof.Math
public import Idealize.ShloMosaic.Lib.ReduceAll

@[expose] public section

noncomputable section

namespace Cert.Moe.Pre

open Idealize.ShloMosaic Cert.Pre_routed_KernelIdeal

instance : Subsingleton S_.Idx := ⟨fun _ _ => funext fun a => a.elim0⟩

/-- An extended real whose absolute value is below infinity is a real number. -/
theorem real_of_abs {x : EReal} (h : Ideal.cmp .olt (max x (-x)) (Ideal.ofBits FTy.f32 0x7F800000#32) = 1#1) : IsReal x := by
  have hb : Ideal.ofBits FTy.f32 0x7F800000#32 = (⊤ : EReal) := by simp [Ideal.ofBits, Ideal.ieee]
  rw [hb] at h
  induction x using EReal.rec with
  | bot => simp [Ideal.cmp] at h
  | top => simp [Ideal.cmp] at h
  | coe r => exact ⟨r, rfl⟩

/-- A word between 0 and 63 is an expert's number. -/
theorem expert_of_range {v : BitVec 32} (h0 : IntOp.cmpi .sge v 0#32 = 1#1) (h1 : IntOp.cmpi .slt v 64#32 = 1#1) :
    ∃ a : Fin 64, v = BitVec.ofNat 32 a := by
  have h0 := IntOp.cmpi_sge.1 h0
  have h1 := IntOp.cmpi_slt.1 h1
  have e0 : (0#32).toInt = 0 := rfl
  have e1 : (64#32).toInt = 64 := rfl
  rw [e0] at h0; rw [e1] at h1
  have hv := BitVec.toInt_eq_toNat_cond v
  have hl := v.isLt
  have hn : v.toNat < 64 := by split at hv <;> omega
  exact ⟨⟨v.toNat, hn⟩, by simp⟩

variable {x : FVec Ideal S512x256 .f32} {rt : FVec Ideal S256x64 .f32} {ix : IVec S512x2 32} {w : FVec Ideal S4x256x512 .f32}

/-- The precondition, read element by element. -/
theorem holds (h : fn (F := Ideal) x rt ix w = fun _ => 1#1) :
    (∀ i, ∃ a : Fin 64, ix i = BitVec.ofNat 32 a) ∧ (∀ i, IsReal (x i)) ∧ ∀ i, IsReal (rt i) := by
  have h := congrFun h (fun a => a.elim0)
  dsimp only [fn] at h
  obtain ⟨h1, h⟩ := IntOp.andi_eq_one.1 h
  obtain ⟨h2, h3⟩ := IntOp.andi_eq_one.1 h
  refine ⟨fun i => ?_, fun i => ?_, fun i => ?_⟩
  · obtain ⟨ha, hb⟩ := IntOp.andi_eq_one.1 (Host.reduce_andi_all _ _ _ _ _ h1 i)
    exact expert_of_range ha hb
  · exact real_of_abs (Host.reduce_andi_all _ _ _ _ _ h2 i)
  · exact real_of_abs (Host.reduce_andi_all _ _ _ _ _ h3 i)

end Cert.Moe.Pre

end
-- ==== Proof.lean ====
/-
# The certificate

The kernel's runs, the reference's runs, and that on every device the kernel's result is its block of the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_routed_KernelIdeal
public import proofs.«01_k».proof.Proof.Gen.Pre_routed_ReferenceIdeal
public import proofs.«01_k».proof.Proof.Launch
public import proofs.«01_k».proof.Proof.Ref
public import proofs.«01_k».proof.Proof.Ker
public import proofs.«01_k».proof.Proof.Pre
public import Idealize.ShloMosaic.Adequacy
public import Idealize.ShloMosaic.Init

@[expose] public section

noncomputable section

namespace Cert.Proof

open Idealize.ShloMosaic Idealize.SL.Sem

/-- The two printings have the same body. -/
theorem defs₀_eq : Cert.Kernel.defs₀ (F := Bits) = Cert.KernelIdeal.defs₀ (F := Bits) := by
  unfold Cert.Kernel.defs₀ Cert.KernelIdeal.defs₀
  congr 1
  funext l a
  match l, a with
  | ⟨0, _⟩, (t, s) => rfl
  | ⟨_ + 1, h⟩, _ => exact absurd h (Nat.not_lt.2 (Nat.le_add_left _ _))

theorem defs_eq : Cert.Kernel.defs (F := Bits) = Cert.KernelIdeal.defs (F := Bits) := congrArg (Pipeline.defs Cert.KernelIdeal.pcfgs) defs₀_eq

/-- The kernel's run in machine numbers is the run proved for any numbers. -/
theorem frame_kernel : Cert.quiescent_Kernel := fun m ρ _ => by
  have h := Cert.Moe.run_frame (F := Bits) m ρ
  rw [← defs_eq] at h
  exact h

theorem frame_ideal : Cert.quiescent_KernelIdeal := fun m ρ _ => Cert.Moe.run_frame (F := Ideal) m ρ

theorem frame_ideal_routed : Cert.quiescent_KernelIdeal_pre_routed_KernelIdeal := fun m ρ _ => Cert.Moe.run_frame (F := Ideal) m ρ

/-- The reference's run: its arguments stay, and it has no counter. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem frame_reference_routed : Cert.quiescent_ReferenceIdeal_pre_routed_ReferenceIdeal := fun m ρ _ => frame_reference m ρ trivial

section Value

open Cert.Moe Idealize.ShloMosaic.Pointwise

/-- Row `i` of device `c`'s block is this row of the whole array. -/
def wholeRow (c : Fin 16) (i : Fin 512) : Fin 8192 := ⟨c * 512 + i, by omega⟩

/-- On every device the kernel's result is its block of the reference's. -/
theorem out_block (m : (ℓ : Loc Cert.KernelIdeal.nD Cert.KernelIdeal.τ Cert.KernelIdeal.sig) → Buf (Elt Ideal) ℓ) (x : FVec Ideal ⟨2, ![8192, 256]⟩ .f32) (rt : FVec Ideal ⟨2, ![256, 64]⟩ .f32)
    (ix : IVec ⟨2, ![8192, 2]⟩ 32) (w : FVec Ideal ⟨3, ![64, 256, 512]⟩ .f32) (hp : Cert.Pre_KernelIdeal_routed_KernelIdeal m)
    (hm : ∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c x
      ∧ m ((c.tc : Thread Cert.KernelIdeal.nD Cert.KernelIdeal.τ).loc Cert.KernelIdeal.main_arg1) = rt
      ∧ m ((c.tc : Thread Cert.KernelIdeal.nD Cert.KernelIdeal.τ).loc Cert.KernelIdeal.main_arg2) = Layout.block ⟨2, ![512, 2]⟩ ⟨2, ![8192, 2]⟩ 0 16 c ix
      ∧ m ((c.tc : Thread Cert.KernelIdeal.nD Cert.KernelIdeal.τ).loc Cert.KernelIdeal.main_arg3) = Layout.block ⟨3, ![4, 256, 512]⟩ ⟨3, ![64, 256, 512]⟩ 0 16 c w)
    (c : Dev Cert.KernelIdeal.nD) : outAt m c = Layout.block ⟨2, ![512, 512]⟩ ⟨2, ![8192, 512]⟩ 0 16 c (Ref.out x rt ix w) := by
  obtain ⟨pi, px, pr⟩ := Pre.holds (hp c)
  obtain ⟨h0, h1, h2, -⟩ := hm c
  have ex : xin m c = Layout.block ⟨2, ![512, 256]⟩ ⟨2, ![8192, 256]⟩ 0 16 c x := (xin_eq m c).trans h0
  have er : rwin m c = rt := (rwin_eq m c).trans h1
  have ei : ixin m c = Layout.block ⟨2, ![512, 2]⟩ ⟨2, ![8192, 2]⟩ 0 16 c ix := (ixin_eq m c).trans h2
  rw [← xin_eq m c] at px
  rw [← rwin_eq m c] at pr
  rw [← ixin_eq m c] at pi
  funext idx
  obtain ⟨i, j, rfl⟩ : ∃ (i : Fin 512) (j : Fin 512), idx = ix2 i j := ⟨_, _, eq_ix2 idx⟩
  obtain ⟨a, ha⟩ := pi (ix2 i 0)
  obtain ⟨b, hb⟩ := pi (ix2 i 1)
  have rx : ∀ k : Fin 256, xin m c (ix2 i k) = x (ix2 (wholeRow c i) k) := fun k => by
    rw [ex]; refine congrArg x (funext fun d => ?_); fin_cases d <;> rfl
  have ri : ∀ q : Fin 2, ixin m c (ix2 i q) = ix (ix2 (wholeRow c i) q) := fun q => by
    rw [ei]; refine congrArg ix (funext fun d => ?_); fin_cases d <;> rfl
  have ro : (Layout.block ⟨2, ![512, 512]⟩ ⟨2, ![8192, 512]⟩ 0 16 c (Ref.out x rt ix w)) (ix2 i j)
      = Ref.out x rt ix w (ix2 (wholeRow c i) j) := by
    refine congrArg (Ref.out x rt ix w) (funext fun d => ?_); fin_cases d <;> rfl
  have rw' : ∀ (o : Dev Cert.KernelIdeal.nD) (q : Fin 4) (k : Fin 256), ew m o (ix3 q k j) = w (ix3 (expertOf o q) k j) := fun o q k => by
    rw [(ew_eq m o).trans (hm o).2.2.2]
    refine congrArg w (funext fun d => ?_)
    fin_cases d
    · exact Fin.ext (by show o.val * 4 + q.val = 4 * o.val + q.val; omega)
    · rfl
    · rfl
  rw [ro, Ref.out_apply x rt ix w _ _ a b ((ri 0).symm.trans ha) ((ri 1).symm.trans hb),
    outAt_apply m c i j a b (fun e k => w (ix3 e k j)) (fun k => px _) (fun k e => pr _) ha hb rw']
  unfold rowScore
  simp only [rx, er]

theorem algebraic : Cert.algebraic_KernelIdeal_ReferenceIdeal_pre_routed_KernelIdeal := fun m g m' g' hp hm =>
  ⟨Cert.ReferenceIdeal.Value.res_main_v68 (F := Ideal) m' 0,
    (θ_run Cert.KernelIdeal.defs _ _).mono (fun r h c => ⟨(h.1 c).1.trans (by
      rw [Ref.res_eq]; exact out_block m _ _ _ _ hp hm c), (h.1 c).2⟩) (run_out (F := Ideal) m g),
    (θ_run Cert.ReferenceIdeal.defs _ _).mono (fun r h => h 0) (Cert.ReferenceIdeal.Value.run (F := Ideal) m' g')⟩

end Value

theorem claim : Cert.Claim :=
  ⟨Cert.Kernel.Gen.facts, Cert.KernelIdeal.Gen.facts, Cert.ReferenceIdeal.Gen.facts, Cert.Pre_routed_KernelIdeal.Gen.facts,
    Cert.Pre_routed_ReferenceIdeal.Gen.facts, frame_kernel, frame_ideal, frame_ideal_routed, frame_reference, frame_reference_routed,
    trivial, algebraic⟩

end Cert.Proof

end
